-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_history [hPre_finite_history : Cert.Pre_finite_history.Facts] (m : (ℓ : Loc Cert.KernelIdeal.nD Cert.KernelIdeal.τ Cert.KernelIdeal.sig) → Buf (Elt Ideal) ℓ) : Prop :=
  ∀ c : Dev Cert.KernelIdeal.nD,
    (Cert.Pre_finite_history.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_history [hPre_finite_history : Cert.Pre_finite_history.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_history.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_history [hKernelIdeal : Cert.KernelIdeal.Facts] [hPre_finite_history : Cert.Pre_finite_history.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_history m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_history [hReferenceIdeal : Cert.ReferenceIdeal.Facts] [hPre_finite_history : Cert.Pre_finite_history.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_history m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_history [hKernelIdeal : Cert.KernelIdeal.Facts] [hReferenceIdeal : Cert.ReferenceIdeal.Facts] [hPre_finite_history : Cert.Pre_finite_history.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_history m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)) (v4 : (c : Dev Cert.KernelIdeal.nD) → Buf (Elt Ideal) ((c.tc : Thread Cert.KernelIdeal.nD Cert.KernelIdeal.τ).loc Cert.KernelIdeal.main_v6)) (v5 : (c : Dev Cert.KernelIdeal.nD) → Buf (Elt Ideal) ((c.tc : Thread Cert.KernelIdeal.nD Cert.KernelIdeal.τ).loc Cert.KernelIdeal.main_v7)) (v6 : (c : Dev Cert.KernelIdeal.nD) → Buf (Elt Ideal) ((c.tc : Thread Cert.KernelIdeal.nD Cert.KernelIdeal.τ).loc Cert.KernelIdeal.main_v8)) (v7 : (c : Dev Cert.KernelIdeal.nD) → Buf (Elt Ideal) ((c.tc : Thread Cert.KernelIdeal.nD Cert.KernelIdeal.τ).loc Cert.KernelIdeal.main_v1_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_v7) = v5 c
          ∧ r.2.mem ((c.tc : Thread Cert.KernelIdeal.nD Cert.KernelIdeal.τ).loc Cert.KernelIdeal.main_v8) = v6 c
          ∧ r.2.mem ((c.tc : Thread Cert.KernelIdeal.nD Cert.KernelIdeal.τ).loc Cert.KernelIdeal.main_v1_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_v5) = v3 c
          ∧ r.2.mem ((c.tc : Thread Cert.ReferenceIdeal.nD Cert.ReferenceIdeal.τ).loc Cert.ReferenceIdeal.main_v6) = v4 c
          ∧ r.2.mem ((c.tc : Thread Cert.ReferenceIdeal.nD Cert.ReferenceIdeal.τ).loc Cert.ReferenceIdeal.main_v7) = v5 c
          ∧ r.2.mem ((c.tc : Thread Cert.ReferenceIdeal.nD Cert.ReferenceIdeal.τ).loc Cert.ReferenceIdeal.main_v8) = v6 c
          ∧ r.2.mem ((c.tc : Thread Cert.ReferenceIdeal.nD Cert.ReferenceIdeal.τ).loc Cert.ReferenceIdeal.main_v1_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_history : Cert.Pre_finite_history.Facts),
    quiescent_Kernel (hKernel := hKernel)
    ∧ quiescent_KernelIdeal (hKernelIdeal := hKernelIdeal)
    ∧ quiescent_KernelIdeal_pre_finite_history (hKernelIdeal := hKernelIdeal) (hPre_finite_history := hPre_finite_history)
    ∧ quiescent_ReferenceIdeal (hReferenceIdeal := hReferenceIdeal)
    ∧ quiescent_ReferenceIdeal_pre_finite_history (hReferenceIdeal := hReferenceIdeal) (hPre_finite_history := hPre_finite_history)
    ∧ preserves_Kernel_KernelIdeal
    ∧ algebraic_KernelIdeal_ReferenceIdeal_pre_finite_history (hKernelIdeal := hKernelIdeal) (hReferenceIdeal := hReferenceIdeal) (hPre_finite_history := hPre_finite_history)
-- ==== Pre_finite_history.lean ====
abbrev S1x128x3584 : Shape := ⟨3, ![1, 128, 3584]⟩
abbrev S3x3584x3584 : Shape := ⟨3, ![3, 3584, 3584]⟩
abbrev S3x3584 : Shape := ⟨2, ![3, 3584]⟩
abbrev S3x16 : Shape := ⟨2, ![3, 16]⟩
abbrev S_ : Shape := ⟨0, ![]⟩

class Facts : Prop where
  bcast_S_S3x16 : S_.BroadcastsInDim S3x16 (![] : Fin 0 → Fin S3x16.rank)
  reducesTo_S3x16_S_d0_1 : S3x16.ReducesTo [0, 1] S_
  h_S_ : 0 < S_.numel

variable [Facts]

def fn {F : FTy → Type} [FloatOps F] (main_arg0 : FVec F S1x128x3584 .bf16) (main_arg1 : FVec F S3x3584x3584 .fp8e4m3) (main_arg2 : FVec F S3x3584 .f32) (main_arg3 : FVec F S3x3584 .f32) (main_arg4 : FVec F S3x16 .f32) : IVec S_ 1 :=
  let main_v0 : FVec F S3x16 .f32 := Host.absf main_arg4
  let main_cst : FVec F S_ .f32 := constant S_ .f32 0x7F7FFFFF#32
  let main_v1 : FVec F S3x16 .f32 := broadcastInDim S3x16 ![] bcast_S_S3x16 main_cst
  let main_v2 : IVec S3x16 1 := cmpf .ole main_v0 main_v1
  let main_c : IVec S_ 1 := constantI S_ 1 1#1
  let main_v3 : IVec S_ 1 := (fun x v => Host.reduce IntOp.andi x v reducesTo_S3x16_S_d0_1 h_S_) main_v2 main_c
  main_v3
-- ==== Kernel.lean ====
abbrev S1x128x3584 : Shape := ⟨3, ![1, 128, 3584]⟩
abbrev S3x3584x3584 : Shape := ⟨3, ![3, 3584, 3584]⟩
abbrev S3x3584 : Shape := ⟨2, ![3, 3584]⟩
abbrev S3x16 : Shape := ⟨2, ![3, 16]⟩
abbrev S128x3584 : Shape := ⟨2, ![128, 3584]⟩
abbrev S1x1 : Shape := ⟨2, ![1, 1]⟩
abbrev S21x3584x512 : Shape := ⟨3, ![21, 3584, 512]⟩
abbrev S3x128x3584 : Shape := ⟨3, ![3, 128, 3584]⟩
abbrev S3x1x1 : Shape := ⟨3, ![3, 1, 1]⟩
abbrev S3x8x128 : Shape := ⟨3, ![3, 8, 128]⟩
abbrev S21 : Shape := ⟨1, ![21]⟩
abbrev S4 : Shape := ⟨1, ![4]⟩
abbrev S8 : Shape := ⟨1, ![8]⟩
abbrev S1 : Shape := ⟨1, ![1]⟩
abbrev S_ : Shape := ⟨0, ![]⟩
abbrev S1x3584x512 : Shape := ⟨3, ![1, 3584, 512]⟩
abbrev S3584x512 : Shape := ⟨2, ![3584, 512]⟩
abbrev S3 : Shape := ⟨1, ![3]⟩
abbrev S3x1 : Shape := ⟨2, ![3, 1]⟩
abbrev S3x256 : Shape := ⟨2, ![3, 256]⟩
abbrev S1x1x1 : Shape := ⟨3, ![1, 1, 1]⟩
abbrev S8x128 : Shape := ⟨2, ![8, 128]⟩
abbrev S128x512 : Shape := ⟨2, ![128, 512]⟩
abbrev S1x128x512 : Shape := ⟨3, ![1, 128, 512]⟩
abbrev S1x8x128 : Shape := ⟨3, ![1, 8, 128]⟩
abbrev S1x512 : Shape := ⟨2, ![1, 512]⟩
abbrev S3x15 : Shape := ⟨2, ![3, 15]⟩

abbrev nBuf : Space → Nat
  | .hbm => 21
  | .vmem => 11
  | .smem => 0
  | _ => 0

abbrev bufTy : (tb : Table) → Fin (tcTables nBuf tb) → BufTy
  | .hbm, ⟨0, _⟩ => ⟨S1x128x3584, .bf16⟩
  | .hbm, ⟨1, _⟩ => ⟨S3x3584x3584, .fp8e4m3⟩
  | .hbm, ⟨2, _⟩ => ⟨S3x3584, .f32⟩
  | .hbm, ⟨3, _⟩ => ⟨S3x3584, .f32⟩
  | .hbm, ⟨4, _⟩ => ⟨S3x16, .f32⟩
  | .hbm, ⟨5, _⟩ => ⟨S128x3584, .bf16⟩
  | .hbm, ⟨6, _⟩ => ⟨S128x3584, .bf16⟩
  | .hbm, ⟨7, _⟩ => ⟨S128x3584, .fp8e4m3⟩
  | .hbm, ⟨8, _⟩ => ⟨S1x1, .f32⟩
  | .hbm, ⟨9, _⟩ => ⟨S128x3584, .fp8e4m3⟩
  | .hbm, ⟨10, _⟩ => ⟨S1x1, .f32⟩
  | .hbm, ⟨11, _⟩ => ⟨S128x3584, .fp8e4m3⟩
  | .hbm, ⟨12, _⟩ => ⟨S1x1, .f32⟩
  | .hbm, ⟨13, _⟩ => ⟨S3x16, .f32⟩
  | .hbm, ⟨14, _⟩ => ⟨S1x128x3584, .bf16⟩
  | .hbm, ⟨15, _⟩ => ⟨S1x128x3584, .fp8e4m3⟩
  | .hbm, ⟨16, _⟩ => ⟨S_, .f32⟩
  | .hbm, ⟨17, _⟩ => ⟨S1x128x3584, .fp8e4m3⟩
  | .hbm, ⟨18, _⟩ => ⟨S_, .f32⟩
  | .hbm, ⟨19, _⟩ => ⟨S1x128x3584, .fp8e4m3⟩
  | .hbm, ⟨20, _⟩ => ⟨S_, .f32⟩
  | .local _ .vmem, ⟨0, _⟩ => ⟨S128x3584, .bf16⟩
  | .local _ .vmem, ⟨1, _⟩ => ⟨S21x3584x512, .fp8e4m3⟩
  | .local _ .vmem, ⟨2, _⟩ => ⟨S3x3584, .f32⟩
  | .local _ .vmem, ⟨3, _⟩ => ⟨S3x3584, .f32⟩
  | .local _ .vmem, ⟨4, _⟩ => ⟨S3x16, .f32⟩
  | .local _ .vmem, ⟨5, _⟩ => ⟨S128x3584, .f32⟩
  | .local _ .vmem, ⟨6, _⟩ => ⟨S3x128x3584, .fp8e4m3⟩
  | .local _ .vmem, ⟨7, _⟩ => ⟨S128x3584, .bf16⟩
  | .local _ .vmem, ⟨8, _⟩ => ⟨S3x1x1, .f32⟩
  | .local _ .vmem, ⟨9, _⟩ => ⟨S3x16, .f32⟩
  | .local _ .vmem, ⟨10, _⟩ => ⟨S3x8x128, .f32⟩
  | _, _ => ⟨S1x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev main_v1_6 : Ref sig .tc := ⟨.hbm, 12, rfl⟩
abbrev main_v1_7 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩

abbrev nD : Nat := 1
abbrev τ : Topo := Topo.v7x

variable {F : FTy → Type} [FloatOps F]

abbrev grid0 : Pipeline.Grid := .none

def k0_mult1 : BitVec 32 :=
  let c0_i32_0 : BitVec 32 := 0#32
  c0_i32_0
def k0_mult2 : BitVec 32 :=
  let c512_i32 : BitVec 32 := 512#32
  c512_i32
def k0_mult3 : BitVec 32 :=
  let c1024_i32 : BitVec 32 := 1024#32
  c1024_i32
def k0_mult4 : BitVec 32 :=
  let c1536_i32 : BitVec 32 := 1536#32
  c1536_i32
def k0_mult5 : BitVec 32 :=
  let c2048_i32 : BitVec 32 := 2048#32
  c2048_i32
def k0_mult6 : BitVec 32 :=
  let c2560_i32 : BitVec 32 := 2560#32
  c2560_i32
def k0_mult7 : BitVec 32 :=
  let c3072_i32 : BitVec 32 := 3072#32
  c3072_i32
def k0_mult8 : BitVec 32 :=
  let c0_i32_40 : BitVec 32 := 0#32
  c0_i32_40
def k0_mult9 : BitVec 32 :=
  let c512_i32_46 : BitVec 32 := 512#32
  c512_i32_46
def k0_mult10 : BitVec 32 :=
  let c1024_i32_52 : BitVec 32 := 1024#32
  c1024_i32_52
def k0_mult11 : BitVec 32 :=
  let c1536_i32_58 : BitVec 32 := 1536#32
  c1536_i32_58
def k0_mult12 : BitVec 32 :=
  let c2048_i32_64 : BitVec 32 := 2048#32
  c2048_i32_64
def k0_mult13 : BitVec 32 :=
  let c2560_i32_70 : BitVec 32 := 2560#32
  c2560_i32_70
def k0_mult14 : BitVec 32 :=
  let c3072_i32_76 : BitVec 32 := 3072#32
  c3072_i32_76
def k0_mult15 : BitVec 32 :=
  let c0_i32_82 : BitVec 32 := 0#32
  c0_i32_82
def k0_mult16 : BitVec 32 :=
  let c512_i32_88 : BitVec 32 := 512#32
  c512_i32_88
def k0_mult17 : BitVec 32 :=
  let c1024_i32_94 : BitVec 32 := 1024#32
  c1024_i32_94
def k0_mult18 : BitVec 32 :=
  let c1536_i32_100 : BitVec 32 := 1536#32
  c1536_i32_100
def k0_mult19 : BitVec 32 :=
  let c2048_i32_106 : BitVec 32 := 2048#32
  c2048_i32_106
def k0_mult20 : BitVec 32 :=
  let c2560_i32_112 : BitVec 32 := 2560#32
  c2560_i32_112
def k0_mult21 : BitVec 32 :=
  let c3072_i32_118 : BitVec 32 := 3072#32
  c3072_i32_118
@[reducible] def k0_t1_loop : Scf.Loop 32 :=
  let c0_i32_142 : BitVec 32 := 0#32
  let c7_i32_143 : BitVec 32 := 7#32
  let v205 : BitVec 32 := Scalar.addi c0_i32_142 c7_i32_143
  let c1_i32_144 : BitVec 32 := 1#32
  ⟨c0_i32_142, v205, c1_i32_144⟩
def k0_mult22 (k0_t1 : Fin k0_t1_loop.trips) : BitVec 32 :=
  let c0_i32_142 : BitVec 32 := 0#32
  let c1_i32_144 : BitVec 32 := 1#32
  let arg27 : BitVec 32 := Scf.iv c0_i32_142 c1_i32_144 k0_t1
  let c512_i32_244 : BitVec 32 := 512#32
  let v332 : BitVec 32 := Scalar.muli arg27 c512_i32_244
  v332
def k0_off1 (k0_t1 : Fin k0_t1_loop.trips) : Fin 2 → Nat :=
  let c0_245 : Index := 0#32
  let c0_i32_142 : BitVec 32 := 0#32
  let c1_i32_144 : BitVec 32 := 1#32
  let arg27 : BitVec 32 := Scf.iv c0_i32_142 c1_i32_144 k0_t1
  let c512_i32_244 : BitVec 32 := 512#32
  let v332 : BitVec 32 := Scalar.muli arg27 c512_i32_244
  let v333 : BitVec 32 := v332
  let v334 : Index := Scalar.indexCast v333
  ![0, v334.toNat]
def k0_off2 (k0_t1 : Fin k0_t1_loop.trips) : Fin 3 → Nat :=
  let c0_248 : Index := 0#32
  let c0_249 : Index := 0#32
  let c0_i32_142 : BitVec 32 := 0#32
  let c1_i32_144 : BitVec 32 := 1#32
  let arg27 : BitVec 32 := Scf.iv c0_i32_142 c1_i32_144 k0_t1
  let c512_i32_244 : BitVec 32 := 512#32
  let v332 : BitVec 32 := Scalar.muli arg27 c512_i32_244
  let v333 : BitVec 32 := v332
  let v345 : Index := Scalar.indexCast v333
  ![0, 0, v345.toNat]
@[reducible] def k0_t2_loop : Scf.Loop 32 :=
  let c0_i32_160 : BitVec 32 := 0#32
  let c7_i32_161 : BitVec 32 := 7#32
  let v223 : BitVec 32 := Scalar.addi c0_i32_160 c7_i32_161
  let c1_i32_162 : BitVec 32 := 1#32
  ⟨c0_i32_160, v223, c1_i32_162⟩
def k0_mult23 (k0_t2 : Fin k0_t2_loop.trips) : BitVec 32 :=
  let c0_i32_160 : BitVec 32 := 0#32
  let c1_i32_162 : BitVec 32 := 1#32
  let arg27 : BitVec 32 := Scf.iv c0_i32_160 c1_i32_162 k0_t2
  let c512_i32_245 : BitVec 32 := 512#32
  let v333 : BitVec 32 := Scalar.muli arg27 c512_i32_245
  v333
def k0_off3 (k0_t2 : Fin k0_t2_loop.trips) : Fin 1 → Nat :=
  let c0_i32_244 : BitVec 32 := 0#32
  let c0_i32_160 : BitVec 32 := 0#32
  let c1_i32_162 : BitVec 32 := 1#32
  let arg27 : BitVec 32 := Scf.iv c0_i32_160 c1_i32_162 k0_t2
  let v332 : BitVec 32 := Scalar.addi c0_i32_244 arg27
  ![v332.toNat]
def k0_off4 (k0_t2 : Fin k0_t2_loop.trips) : Fin 3 → Nat :=
  let c0_i32_244 : BitVec 32 := 0#32
  let c0_i32_160 : BitVec 32 := 0#32
  let c1_i32_162 : BitVec 32 := 1#32
  let arg27 : BitVec 32 := Scf.iv c0_i32_160 c1_i32_162 k0_t2
  let v332 : BitVec 32 := Scalar.addi c0_i32_244 arg27
  let c0_i32_247 : BitVec 32 := 0#32
  let c0_i32_248 : BitVec 32 := 0#32
  ![v332.toNat, 0, 0]
def k0_off5 (k0_t2 : Fin k0_t2_loop.trips) : Fin 3 → Nat :=
  let c0_i32_246 : BitVec 32 := 0#32
  let c0_i32_249 : BitVec 32 := 0#32
  let c0_i32_160 : BitVec 32 := 0#32
  let c1_i32_162 : BitVec 32 := 1#32
  let arg27 : BitVec 32 := Scf.iv c0_i32_160 c1_i32_162 k0_t2
  let c512_i32_245 : BitVec 32 := 512#32
  let v333 : BitVec 32 := Scalar.muli arg27 c512_i32_245
  let v334 : BitVec 32 := v333
  ![0, 0, v334.toNat]
def k0_mult24 (k0_t2 : Fin k0_t2_loop.trips) : BitVec 32 :=
  let c0_i32_160 : BitVec 32 := 0#32
  let c1_i32_162 : BitVec 32 := 1#32
  let arg27 : BitVec 32 := Scf.iv c0_i32_160 c1_i32_162 k0_t2
  let c512_i32_250 : BitVec 32 := 512#32
  let v341 : BitVec 32 := Scalar.muli arg27 c512_i32_250
  v341
def k0_off6 (k0_t2 : Fin k0_t2_loop.trips) : Fin 3 → Nat :=
  let c0_i32_254 : BitVec 32 := 0#32
  let c0_i32_160 : BitVec 32 := 0#32
  let c1_i32_162 : BitVec 32 := 1#32
  let arg27 : BitVec 32 := Scf.iv c0_i32_160 c1_i32_162 k0_t2
  let v345 : BitVec 32 := Scalar.addi c0_i32_254 arg27
  let v346 : Index := Scalar.indexCast v345
  let c0_255 : Index := 0#32
  let c0_256 : Index := 0#32
  ![v346.toNat, 0, 0]
def k0_off7 (k0_t2 : Fin k0_t2_loop.trips) : Fin 2 → Nat :=
  let c0_258 : Index := 0#32
  let c0_i32_160 : BitVec 32 := 0#32
  let c1_i32_162 : BitVec 32 := 1#32
  let arg27 : BitVec 32 := Scf.iv c0_i32_160 c1_i32_162 k0_t2
  let c512_i32_250 : BitVec 32 := 512#32
  let v341 : BitVec 32 := Scalar.muli arg27 c512_i32_250
  let v342 : BitVec 32 := v341
  let v353 : Index := Scalar.indexCast v342
  ![0, v353.toNat]
def k0_off8 (k0_t2 : Fin k0_t2_loop.trips) : Fin 2 → Nat :=
  let c0_260 : Index := 0#32
  let c0_i32_160 : BitVec 32 := 0#32
  let c1_i32_162 : BitVec 32 := 1#32
  let arg27 : BitVec 32 := Scf.iv c0_i32_160 c1_i32_162 k0_t2
  let c512_i32_250 : BitVec 32 := 512#32
  let v341 : BitVec 32 := Scalar.muli arg27 c512_i32_250
  let v342 : BitVec 32 := v341
  let v361 : Index := Scalar.indexCast v342
  ![0, v361.toNat]
def k0_off9 (k0_t2 : Fin k0_t2_loop.trips) : Fin 3 → Nat :=
  let c1_264 : Index := 1#32
  let c0_265 : Index := 0#32
  let c0_i32_160 : BitVec 32 := 0#32
  let c1_i32_162 : BitVec 32 := 1#32
  let arg27 : BitVec 32 := Scf.iv c0_i32_160 c1_i32_162 k0_t2
  let c512_i32_250 : BitVec 32 := 512#32
  let v341 : BitVec 32 := Scalar.muli arg27 c512_i32_250
  let v342 : BitVec 32 := v341
  let v378 : Index := Scalar.indexCast v342
  ![1, 0, v378.toNat]
@[reducible] def k0_t3_loop : Scf.Loop 32 :=
  let c0_i32_176 : BitVec 32 := 0#32
  let c7_i32_177 : BitVec 32 := 7#32
  let v237 : BitVec 32 := Scalar.addi c0_i32_176 c7_i32_177
  let c1_i32_178 : BitVec 32 := 1#32
  ⟨c0_i32_176, v237, c1_i32_178⟩
def k0_mult25 (k0_t3 : Fin k0_t3_loop.trips) : BitVec 32 :=
  let c0_i32_176 : BitVec 32 := 0#32
  let c1_i32_178 : BitVec 32 := 1#32
  let arg27 : BitVec 32 := Scf.iv c0_i32_176 c1_i32_178 k0_t3
  let c512_i32_245 : BitVec 32 := 512#32
  let v333 : BitVec 32 := Scalar.muli arg27 c512_i32_245
  v333
def k0_off10 (k0_t3 : Fin k0_t3_loop.trips) : Fin 1 → Nat :=
  let c7_i32_244 : BitVec 32 := 7#32
  let c0_i32_176 : BitVec 32 := 0#32
  let c1_i32_178 : BitVec 32 := 1#32
  let arg27 : BitVec 32 := Scf.iv c0_i32_176 c1_i32_178 k0_t3
  let v332 : BitVec 32 := Scalar.addi c7_i32_244 arg27
  ![v332.toNat]
def k0_off11 (k0_t3 : Fin k0_t3_loop.trips) : Fin 3 → Nat :=
  let c7_i32_244 : BitVec 32 := 7#32
  let c0_i32_176 : BitVec 32 := 0#32
  let c1_i32_178 : BitVec 32 := 1#32
  let arg27 : BitVec 32 := Scf.iv c0_i32_176 c1_i32_178 k0_t3
  let v332 : BitVec 32 := Scalar.addi c7_i32_244 arg27
  let c0_i32_247 : BitVec 32 := 0#32
  let c0_i32_248 : BitVec 32 := 0#32
  ![v332.toNat, 0, 0]
def k0_off12 (k0_t3 : Fin k0_t3_loop.trips) : Fin 3 → Nat :=
  let c1_i32_246 : BitVec 32 := 1#32
  let c0_i32_249 : BitVec 32 := 0#32
  let c0_i32_176 : BitVec 32 := 0#32
  let c1_i32_178 : BitVec 32 := 1#32
  let arg27 : BitVec 32 := Scf.iv c0_i32_176 c1_i32_178 k0_t3
  let c512_i32_245 : BitVec 32 := 512#32
  let v333 : BitVec 32 := Scalar.muli arg27 c512_i32_245
  let v334 : BitVec 32 := v333
  ![1, 0, v334.toNat]
def k0_mult26 (k0_t3 : Fin k0_t3_loop.trips) : BitVec 32 :=
  let c0_i32_176 : BitVec 32 := 0#32
  let c1_i32_178 : BitVec 32 := 1#32
  let arg27 : BitVec 32 := Scf.iv c0_i32_176 c1_i32_178 k0_t3
  let c512_i32_250 : BitVec 32 := 512#32
  let v341 : BitVec 32 := Scalar.muli arg27 c512_i32_250
  v341
def k0_off13 (k0_t3 : Fin k0_t3_loop.trips) : Fin 3 → Nat :=
  let c7_i32_254 : BitVec 32 := 7#32
  let c0_i32_176 : BitVec 32 := 0#32
  let c1_i32_178 : BitVec 32 := 1#32
  let arg27 : BitVec 32 := Scf.iv c0_i32_176 c1_i32_178 k0_t3
  let v345 : BitVec 32 := Scalar.addi c7_i32_254 arg27
  let v346 : Index := Scalar.indexCast v345
  let c0_255 : Index := 0#32
  let c0_256 : Index := 0#32
  ![v346.toNat, 0, 0]
def k0_off14 (k0_t3 : Fin k0_t3_loop.trips) : Fin 2 → Nat :=
  let c1_258 : Index := 1#32
  let c0_i32_176 : BitVec 32 := 0#32
  let c1_i32_178 : BitVec 32 := 1#32
  let arg27 : BitVec 32 := Scf.iv c0_i32_176 c1_i32_178 k0_t3
  let c512_i32_250 : BitVec 32 := 512#32
  let v341 : BitVec 32 := Scalar.muli arg27 c512_i32_250
  let v342 : BitVec 32 := v341
  let v353 : Index := Scalar.indexCast v342
  ![1, v353.toNat]
def k0_off15 (k0_t3 : Fin k0_t3_loop.trips) : Fin 2 → Nat :=
  let c0_260 : Index := 0#32
  let c0_i32_176 : BitVec 32 := 0#32
  let c1_i32_178 : BitVec 32 := 1#32
  let arg27 : BitVec 32 := Scf.iv c0_i32_176 c1_i32_178 k0_t3
  let c512_i32_250 : BitVec 32 := 512#32
  let v341 : BitVec 32 := Scalar.muli arg27 c512_i32_250
  let v342 : BitVec 32 := v341
  let v361 : Index := Scalar.indexCast v342
  ![0, v361.toNat]
def k0_off16 (k0_t3 : Fin k0_t3_loop.trips) : Fin 3 → Nat :=
  let c2_265 : Index := 2#32
  let c0_266 : Index := 0#32
  let c0_i32_176 : BitVec 32 := 0#32
  let c1_i32_178 : BitVec 32 := 1#32
  let arg27 : BitVec 32 := Scf.iv c0_i32_176 c1_i32_178 k0_t3
  let c512_i32_250 : BitVec 32 := 512#32
  let v341 : BitVec 32 := Scalar.muli arg27 c512_i32_250
  let v342 : BitVec 32 := v341
  let v380 : Index := Scalar.indexCast v342
  ![2, 0, v380.toNat]
@[reducible] def k0_t4_loop : Scf.Loop 32 :=
  let c0_i32_191 : BitVec 32 := 0#32
  let c7_i32_192 : BitVec 32 := 7#32
  let v250 : BitVec 32 := Scalar.addi c0_i32_191 c7_i32_192
  let c1_i32_193 : BitVec 32 := 1#32
  ⟨c0_i32_191, v250, c1_i32_193⟩
def k0_mult27 (k0_t4 : Fin k0_t4_loop.trips) : BitVec 32 :=
  let c0_i32_191 : BitVec 32 := 0#32
  let c1_i32_193 : BitVec 32 := 1#32
  let arg27 : BitVec 32 := Scf.iv c0_i32_191 c1_i32_193 k0_t4
  let c512_i32_245 : BitVec 32 := 512#32
  let v333 : BitVec 32 := Scalar.muli arg27 c512_i32_245
  v333
def k0_off17 (k0_t4 : Fin k0_t4_loop.trips) : Fin 1 → Nat :=
  let c14_i32_244 : BitVec 32 := 14#32
  let c0_i32_191 : BitVec 32 := 0#32
  let c1_i32_193 : BitVec 32 := 1#32
  let arg27 : BitVec 32 := Scf.iv c0_i32_191 c1_i32_193 k0_t4
  let v332 : BitVec 32 := Scalar.addi c14_i32_244 arg27
  ![v332.toNat]
def k0_off18 (k0_t4 : Fin k0_t4_loop.trips) : Fin 3 → Nat :=
  let c14_i32_244 : BitVec 32 := 14#32
  let c0_i32_191 : BitVec 32 := 0#32
  let c1_i32_193 : BitVec 32 := 1#32
  let arg27 : BitVec 32 := Scf.iv c0_i32_191 c1_i32_193 k0_t4
  let v332 : BitVec 32 := Scalar.addi c14_i32_244 arg27
  let c0_i32_247 : BitVec 32 := 0#32
  let c0_i32_248 : BitVec 32 := 0#32
  ![v332.toNat, 0, 0]
def k0_off19 (k0_t4 : Fin k0_t4_loop.trips) : Fin 3 → Nat :=
  let c2_i32_246 : BitVec 32 := 2#32
  let c0_i32_249 : BitVec 32 := 0#32
  let c0_i32_191 : BitVec 32 := 0#32
  let c1_i32_193 : BitVec 32 := 1#32
  let arg27 : BitVec 32 := Scf.iv c0_i32_191 c1_i32_193 k0_t4
  let c512_i32_245 : BitVec 32 := 512#32
  let v333 : BitVec 32 := Scalar.muli arg27 c512_i32_245
  let v334 : BitVec 32 := v333
  ![2, 0, v334.toNat]
def k0_mult28 (k0_t4 : Fin k0_t4_loop.trips) : BitVec 32 :=
  let c0_i32_191 : BitVec 32 := 0#32
  let c1_i32_193 : BitVec 32 := 1#32
  let arg27 : BitVec 32 := Scf.iv c0_i32_191 c1_i32_193 k0_t4
  let c512_i32_250 : BitVec 32 := 512#32
  let v341 : BitVec 32 := Scalar.muli arg27 c512_i32_250
  v341
def k0_off20 (k0_t4 : Fin k0_t4_loop.trips) : Fin 3 → Nat :=
  let c14_i32_254 : BitVec 32 := 14#32
  let c0_i32_191 : BitVec 32 := 0#32
  let c1_i32_193 : BitVec 32 := 1#32
  let arg27 : BitVec 32 := Scf.iv c0_i32_191 c1_i32_193 k0_t4
  let v345 : BitVec 32 := Scalar.addi c14_i32_254 arg27
  let v346 : Index := Scalar.indexCast v345
  let c0_255 : Index := 0#32
  let c0_256 : Index := 0#32
  ![v346.toNat, 0, 0]
def k0_off21 (k0_t4 : Fin k0_t4_loop.trips) : Fin 2 → Nat :=
  let c2_258 : Index := 2#32
  let c0_i32_191 : BitVec 32 := 0#32
  let c1_i32_193 : BitVec 32 := 1#32
  let arg27 : BitVec 32 := Scf.iv c0_i32_191 c1_i32_193 k0_t4
  let c512_i32_250 : BitVec 32 := 512#32
  let v341 : BitVec 32 := Scalar.muli arg27 c512_i32_250
  let v342 : BitVec 32 := v341
  let v353 : Index := Scalar.indexCast v342
  ![2, v353.toNat]
def k0_off22 (k0_t4 : Fin k0_t4_loop.trips) : Fin 2 → Nat :=
  let c0_260 : Index := 0#32
  let c0_i32_191 : BitVec 32 := 0#32
  let c1_i32_193 : BitVec 32 := 1#32
  let arg27 : BitVec 32 := Scf.iv c0_i32_191 c1_i32_193 k0_t4
  let c512_i32_250 : BitVec 32 := 512#32
  let v341 : BitVec 32 := Scalar.muli arg27 c512_i32_250
  let v342 : BitVec 32 := v341
  let v361 : Index := Scalar.indexCast v342
  ![0, v361.toNat]
-- ==== ReferenceIdeal.lean ====
abbrev S1x128x3584 : Shape := ⟨3, ![1, 128, 3584]⟩
abbrev S3x3584x3584 : Shape := ⟨3, ![3, 3584, 3584]⟩
abbrev S3x3584 : Shape := ⟨2, ![3, 3584]⟩
abbrev S3x16 : Shape := ⟨2, ![3, 16]⟩
abbrev S128x3584 : Shape := ⟨2, ![128, 3584]⟩
abbrev S1x1 : Shape := ⟨2, ![1, 1]⟩
abbrev S3 : Shape := ⟨1, ![3]⟩
abbrev S3x1 : Shape := ⟨2, ![3, 1]⟩
abbrev S1 : Shape := ⟨1, ![1]⟩
abbrev S1x1x1 : Shape := ⟨3, ![1, 1, 1]⟩
abbrev S1x3584x3584 : Shape := ⟨3, ![1, 3584, 3584]⟩
abbrev S3584x3584 : Shape := ⟨2, ![3584, 3584]⟩
abbrev S1x3584 : Shape := ⟨2, ![1, 3584]⟩
abbrev S3x15 : Shape := ⟨2, ![3, 15]⟩
abbrev S_ : Shape := ⟨0, ![]⟩

abbrev nBuf : Space → Nat
  | .hbm => 21
  | .vmem => 13
  | .smem => 0
  | _ => 0

abbrev bufTy : (tb : Table) → Fin (tcTables nBuf tb) → BufTy
  | .hbm, ⟨0, _⟩ => ⟨S1x128x3584, .bf16⟩
  | .hbm, ⟨1, _⟩ => ⟨S3x3584x3584, .fp8e4m3⟩
  | .hbm, ⟨2, _⟩ => ⟨S3x3584, .f32⟩
  | .hbm, ⟨3, _⟩ => ⟨S3x3584, .f32⟩
  | .hbm, ⟨4, _⟩ => ⟨S3x16, .f32⟩
  | .hbm, ⟨5, _⟩ => ⟨S128x3584, .bf16⟩
  | .hbm, ⟨6, _⟩ => ⟨S128x3584, .bf16⟩
  | .hbm, ⟨7, _⟩ => ⟨S128x3584, .fp8e4m3⟩
  | .hbm, ⟨8, _⟩ => ⟨S1x1, .f32⟩
  | .hbm, ⟨9, _⟩ => ⟨S128x3584, .fp8e4m3⟩
  | .hbm, ⟨10, _⟩ => ⟨S1x1, .f32⟩
  | .hbm, ⟨11, _⟩ => ⟨S128x3584, .fp8e4m3⟩
  | .hbm, ⟨12, _⟩ => ⟨S1x1, .f32⟩
  | .hbm, ⟨13, _⟩ => ⟨S3x16, .f32⟩
  | .hbm, ⟨14, _⟩ => ⟨S1x128x3584, .bf16⟩
  | .hbm, ⟨15, _⟩ => ⟨S1x128x3584, .fp8e4m3⟩
  | .hbm, ⟨16, _⟩ => ⟨S_, .f32⟩
  | .hbm, ⟨17, _⟩ => ⟨S1x128x3584, .fp8e4m3⟩
  | .hbm, ⟨18, _⟩ => ⟨S_, .f32⟩
  | .hbm, ⟨19, _⟩ => ⟨S1x128x3584, .fp8e4m3⟩
  | .hbm, ⟨20, _⟩ => ⟨S_, .f32⟩
  | .local _ .vmem, ⟨0, _⟩ => ⟨S128x3584, .bf16⟩
  | .local _ .vmem, ⟨1, _⟩ => ⟨S3x3584x3584, .fp8e4m3⟩
  | .local _ .vmem, ⟨2, _⟩ => ⟨S3x3584, .f32⟩
  | .local _ .vmem, ⟨3, _⟩ => ⟨S3x3584, .f32⟩
  | .local _ .vmem, ⟨4, _⟩ => ⟨S3x16, .f32⟩
  | .local _ .vmem, ⟨5, _⟩ => ⟨S128x3584, .bf16⟩
  | .local _ .vmem, ⟨6, _⟩ => ⟨S128x3584, .fp8e4m3⟩
  | .local _ .vmem, ⟨7, _⟩ => ⟨S1x1, .f32⟩
  | .local _ .vmem, ⟨8, _⟩ => ⟨S128x3584, .fp8e4m3⟩
  | .local _ .vmem, ⟨9, _⟩ => ⟨S1x1, .f32⟩
  | .local _ .vmem, ⟨10, _⟩ => ⟨S128x3584, .fp8e4m3⟩
  | .local _ .vmem, ⟨11, _⟩ => ⟨S1x1, .f32⟩
  | .local _ .vmem, ⟨12, _⟩ => ⟨S3x16, .f32⟩
  | _, _ => ⟨S1x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev main_v1_6 : Ref sig .tc := ⟨.hbm, 12, rfl⟩
abbrev main_v1_7 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S128x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x3584x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x3584 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x3584 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x3584 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Run.Base.lean ====
/- The memory of the kernel: its operands, its scratch, and the windows its copies move. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Ring
public import Idealize.ShloMosaic.Lib.Ring.Tabled
public import Idealize.ShloMosaic.Lib.Tactic

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev A0 : Memref sig .tc .hbm S128x3584 .bf16 := Memref.whole main_v0
abbrev A1 : Memref sig .tc .hbm S3x3584x3584 .fp8e4m3 := Memref.whole main_arg1
abbrev A2 : Memref sig .tc .hbm S3x3584 .f32 := Memref.whole main_arg2
abbrev A3 : Memref sig .tc .hbm S3x3584 .f32 := Memref.whole main_arg3
abbrev A4 : Memref sig .tc .hbm S3x16 .f32 := Memref.whole main_arg4
abbrev O0 : Memref sig .tc .hbm S128x3584 .bf16 := Memref.whole main_v1_0
abbrev O1 : Memref sig .tc .hbm S128x3584 .fp8e4m3 := Memref.whole main_v1_1
abbrev O2 : Memref sig .tc .hbm S1x1 .f32 := Memref.whole main_v1_2
abbrev O3 : Memref sig .tc .hbm S128x3584 .fp8e4m3 := Memref.whole main_v1_3
abbrev O4 : Memref sig .tc .hbm S1x1 .f32 := Memref.whole main_v1_4
abbrev O5 : Memref sig .tc .hbm S128x3584 .fp8e4m3 := Memref.whole main_v1_5
abbrev O6 : Memref sig .tc .hbm S1x1 .f32 := Memref.whole main_v1_6
abbrev O7 : Memref sig .tc .hbm S3x16 .f32 := Memref.whole main_v1_7
abbrev X13 : Memref sig .tc .vmem S128x3584 .bf16 := Memref.whole cc0_scratch0
abbrev X14 : Memref sig .tc .vmem S21x3584x512 .fp8e4m3 := Memref.whole cc0_scratch1
abbrev X15 : Memref sig .tc .vmem S3x3584 .f32 := Memref.whole cc0_scratch2
abbrev X16 : Memref sig .tc .vmem S3x3584 .f32 := Memref.whole cc0_scratch3
abbrev X17 : Memref sig .tc .vmem S3x16 .f32 := Memref.whole cc0_scratch4
abbrev X18 : Memref sig .tc .vmem S128x3584 .f32 := Memref.whole cc0_scratch5
abbrev X19 : Memref sig .tc .vmem S3x128x3584 .fp8e4m3 := Memref.whole cc0_scratch6
abbrev X20 : Memref sig .tc .vmem S128x3584 .bf16 := Memref.whole cc0_scratch7
abbrev X21 : Memref sig .tc .vmem S3x1x1 .f32 := Memref.whole cc0_scratch8
abbrev X22 : Memref sig .tc .vmem S3x16 .f32 := Memref.whole cc0_scratch9
abbrev X23 : Memref sig .tc .vmem S3x8x128 .f32 := Memref.whole cc0_scratch10

/-- The contents a memref's buffer can have on one device. -/
abbrev Buf0 (F : FTy → Type) (c : Dev nD) {sp : Space} {S : Shape} {e : EltTy} (M : Memref sig .tc sp S e) : Type := Buf (Elt F) (M.view.loc (c : Thread nD τ))
/-- A memref's buffer held whole. -/
abbrev pt (c : Dev nD) {sp : Space} {S : Shape} {e : EltTy} (M : Memref sig .tc sp S e) (f : Buf0 F c M) : sProp 𝕄 :=
  M.view.loc (c : Thread nD τ) ↦{fullShare} f
/-- The elements under a memref, held. -/
abbrev ptS (c : Dev nD) {sp : Space} {S : Shape} {e : EltTy} (M : Memref sig .tc sp S e) (f : Buf0 F c M) : sProp 𝕄 :=
  M.view.loc (c : Thread nD τ) ↦[M.view.set]{fullShare} f

/-- Panel slot of the weight scratch at the offsets `o`. -/
abbrev wSlot (o : Fin 3 → Nat) (h : ∀ a, o a + S1x3584x512.size a ≤ S21x3584x512.size a) : Memref sig .tc .vmem S3584x512 .fp8e4m3 :=
  (X14.slice (Rect.unit (s := S21x3584x512) o S1x3584x512.size h) (fun _ => rfl)).squeeze S3584x512 squeezes_S1x3584x512_S3584x512
/-- Weight panel at the offsets `o`. -/
abbrev wWin (o : Fin 3 → Nat) (h : ∀ a, o a + S1x3584x512.size a ≤ S3x3584x3584.size a) : Memref sig .tc .hbm S3584x512 .fp8e4m3 :=
  (A1.slice (Rect.unit (s := S3x3584x3584) o S1x3584x512.size h) (fun _ => rfl)).squeeze S3584x512 squeezes_S1x3584x512_S3584x512
/-- The cell of a panel copy. -/
abbrev wCell (o : Fin 1 → Nat) (h : ∀ a, o a + S1.size a ≤ S21.size a) : SemLoc sig :=
  SemLoc.dma ((cc0_scratch11.slice (Rect.unit (s := S21) o S1.size h)).squeeze S_ squeezes_S1_S_).sem

/-- A panel's three parts before its copy: the cell at zero, the slot at anything, the weight panel at `f1`. -/
abbrev freeAt (c : Dev nD) (f1 : Buf0 F c A1) (o3 : Fin 1 → Nat) (h3 : ∀ a, o3 a + S1.size a ≤ S21.size a) (o4 : Fin 3 → Nat) (h4 : ∀ a, o4 a + S1x3584x512.size a ≤ S21x3584x512.size a)
    (o5 : Fin 3 → Nat) (h5 : ∀ a, o5 a + S1x3584x512.size a ≤ S3x3584x3584.size a) : sProp 𝕄 :=
  iprop(semVal ((c : Thread nD τ), wCell o3 h3) 0 ∗ (∃ f, ptS c (wSlot o4 h4) f) ∗ ptS c (wWin o5 h5) f1)
/-- The same after the copy has landed. -/
abbrev landedAt (c : Dev nD) (f1 : Buf0 F c A1) (o3 : Fin 1 → Nat) (h3 : ∀ a, o3 a + S1.size a ≤ S21.size a) (o4 : Fin 3 → Nat) (h4 : ∀ a, o4 a + S1x3584x512.size a ≤ S21x3584x512.size a)
    (o5 : Fin 3 → Nat) (h5 : ∀ a, o5 a + S1x3584x512.size a ≤ S3x3584x3584.size a) : sProp 𝕄 :=
  iprop(semVal ((c : Thread nD τ), wCell o3 h3) 0
    ∗ (∃ f, ptS c (wSlot o4 h4) ((wSlot o4 h4).view.writes (Elt F) f [⟨Rect.whole _, ReadAs.same.apply ((wWin o5 h5).view.read (Elt F) f1)⟩])) ∗ ptS c (wWin o5 h5) f1)
/-- The same while the copy is in flight. -/
abbrev flightAt (c : Dev nD) (f1 : Buf0 F c A1) (o3 : Fin 1 → Nat) (h3 : ∀ a, o3 a + S1.size a ≤ S21.size a) (o4 : Fin 3 → Nat) (h4 : ∀ a, o4 a + S1x3584x512.size a ≤ S21x3584x512.size a)
    (o5 : Fin 3 → Nat) (h5 : ∀ a, o5 a + S1x3584x512.size a ≤ S3x3584x3584.size a) : sProp 𝕄 :=
  iprop(∃ f, Transfers.Flight (countersEmb (U := Pipeline.UD sig nD τ)) (c : Thread nD τ) (wCell o3 h3) () 57344
      iprop(ptS c (wSlot o4 h4) ((wSlot o4 h4).view.writes (Elt F) f [⟨Rect.whole _, ReadAs.same.apply ((wWin o5 h5).view.read (Elt F) f1)⟩]) ∗ ptS c (wWin o5 h5) f1))

/-- The three slabs of the codes scratch, one per layer. -/
abbrev cSlab0 : Memref sig .tc .vmem S128x3584 .fp8e4m3 :=
  ((X19.slice (Rect.unit (s := S3x128x3584) ![0, 0, 0] S1x128x3584.size inb_S3x128x3584_S1x128x3584_0_0_0) (fun _ => rfl)).squeeze S128x3584 squeezes_S1x128x3584_S128x3584)
abbrev cSlab1 : Memref sig .tc .vmem S128x3584 .fp8e4m3 :=
  ((X19.slice (Rect.unit (s := S3x128x3584) ![1, 0, 0] S1x128x3584.size inb_S3x128x3584_S1x128x3584_1_0_0) (fun _ => rfl)).squeeze S128x3584 squeezes_S1x128x3584_S128x3584)
abbrev cSlab2 : Memref sig .tc .vmem S128x3584 .fp8e4m3 :=
  ((X19.slice (Rect.unit (s := S3x128x3584) ![2, 0, 0] S1x128x3584.size inb_S3x128x3584_S1x128x3584_2_0_0) (fun _ => rfl)).squeeze S128x3584 squeezes_S1x128x3584_S128x3584)
/-- The elements under a memref at half a share: the rest is lent to a copy that reads them. -/
abbrev ptL (c : Dev nD) {sp : Space} {S : Shape} {e : EltTy} (M : Memref sig .tc sp S e) (f : Buf0 F c M) : sProp 𝕄 :=
  M.view.loc (c : Thread nD τ) ↦[M.view.set]{fullShare.left} f

/-- One layer's panels: trip `k`'s panel landed (`false`) or in flight (`true`). -/
abbrev wFam {T : Nat} (c : Dev nD) (f1 : Buf0 F c A1) (o3 : Fin T → Fin 1 → Nat) (h3 : ∀ k a, o3 k a + S1.size a ≤ S21.size a)
    (o4 : Fin T → Fin 3 → Nat) (h4 : ∀ k a, o4 k a + S1x3584x512.size a ≤ S21x3584x512.size a)
    (o5 : Fin T → Fin 3 → Nat) (h5 : ∀ k a, o5 k a + S1x3584x512.size a ≤ S3x3584x3584.size a) (k : Fin T) (b : Bool) : sProp 𝕄 :=
  if b then flightAt c f1 (o3 k) (h3 k) (o4 k) (h4 k) (o5 k) (h5 k) else landedAt c f1 (o3 k) (h3 k) (o4 k) (h4 k) (o5 k) (h5 k)

section
variable {T : Nat} (c : Dev nD) (f1 : Buf0 F c A1) (o3 : Fin T → Fin 1 → Nat) (h3 : ∀ k a, o3 k a + S1.size a ≤ S21.size a)
    (o4 : Fin T → Fin 3 → Nat) (h4 : ∀ k a, o4 k a + S1x3584x512.size a ≤ S21x3584x512.size a)
    (o5 : Fin T → Fin 3 → Nat) (h5 : ∀ k a, o5 k a + S1x3584x512.size a ≤ S3x3584x3584.size a) (k : Fin T)
theorem wFam_true : wFam c f1 o3 h3 o4 h4 o5 h5 k true = flightAt c f1 (o3 k) (h3 k) (o4 k) (h4 k) (o5 k) (h5 k) := by
  unfold wFam; exact if_pos rfl
theorem wFam_false : wFam c f1 o3 h3 o4 h4 o5 h5 k false = landedAt c f1 (o3 k) (h3 k) (o4 k) (h4 k) (o5 k) (h5 k) := by
  unfold wFam; exact if_neg Bool.false_ne_true
end

/-- Before trip `k`, the panels from `k` on are in flight. -/
def stK {T : Nat} (k : Nat) : Fin T → Bool := fun j => decide (k ≤ j.val)

theorem stK_self {T : Nat} (k : Fin T) : stK k.val k = true := by simp [stK]

theorem stK_succ {T : Nat} (k : Fin T) : Function.update (stK (T := T) k.val) k false = stK (k.val + 1) := by
  funext j
  by_cases hj : j = k
  · subst hj; rw [Function.update_self]; simp [stK]
  · rw [Function.update_of_ne hj]
    have hv : j.val ≠ k.val := fun h => hj (Fin.ext h)
    by_cases h : k.val ≤ j.val
    · have : k.val + 1 ≤ j.val := by omega
      simp [stK, h, this]
    · have : ¬ (k.val + 1 ≤ j.val) := by omega
      simp [stK, h, this]

end Cert.KernelIdeal.Run
-- ==== Proof.Run.Pack.lean ====
/- The weight panels' copies, named one by one and as a loop's family. -/
module

public import proofs.«01_k».proof.Proof.Run.Base

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem flightAt_congr (c : Dev nD) (f1 : Buf0 F c A1) {o3 o3' : Fin 1 → Nat} {h3 : ∀ a, o3 a + S1.size a ≤ S21.size a} {h3' : ∀ a, o3' a + S1.size a ≤ S21.size a}
    {o4 o4' : Fin 3 → Nat} {h4 : ∀ a, o4 a + S1x3584x512.size a ≤ S21x3584x512.size a} {h4' : ∀ a, o4' a + S1x3584x512.size a ≤ S21x3584x512.size a}
    {o5 o5' : Fin 3 → Nat} {h5 : ∀ a, o5 a + S1x3584x512.size a ≤ S3x3584x3584.size a} {h5' : ∀ a, o5' a + S1x3584x512.size a ≤ S3x3584x3584.size a}
    (e3 : o3 = o3') (e4 : o4 = o4') (e5 : o5 = o5') :
    (flightAt c f1 o3 h3 o4 h4 o5 h5 : sProp 𝕄) = flightAt c f1 o3' h3' o4' h4' o5' h5' := by
  subst e3; subst e4; subst e5; rfl
theorem landedAt_congr (c : Dev nD) (f1 : Buf0 F c A1) {o3 o3' : Fin 1 → Nat} {h3 : ∀ a, o3 a + S1.size a ≤ S21.size a} {h3' : ∀ a, o3' a + S1.size a ≤ S21.size a}
    {o4 o4' : Fin 3 → Nat} {h4 : ∀ a, o4 a + S1x3584x512.size a ≤ S21x3584x512.size a} {h4' : ∀ a, o4' a + S1x3584x512.size a ≤ S21x3584x512.size a}
    {o5 o5' : Fin 3 → Nat} {h5 : ∀ a, o5 a + S1x3584x512.size a ≤ S3x3584x3584.size a} {h5' : ∀ a, o5' a + S1x3584x512.size a ≤ S3x3584x3584.size a}
    (e3 : o3 = o3') (e4 : o4 = o4') (e5 : o5 = o5') :
    (landedAt c f1 o3 h3 o4 h4 o5 h5 : sProp 𝕄) = landedAt c f1 o3' h3' o4' h4' o5' h5' := by
  subst e3; subst e4; subst e5; rfl

/-- A landed panel is a free one: its slot holds something. -/
theorem free_of_landed (c : Dev nD) (f1 : Buf0 F c A1) (o3 : Fin 1 → Nat) (h3 : ∀ a, o3 a + S1.size a ≤ S21.size a) (o4 : Fin 3 → Nat) (h4 : ∀ a, o4 a + S1x3584x512.size a ≤ S21x3584x512.size a)
    (o5 : Fin 3 → Nat) (h5 : ∀ a, o5 a + S1x3584x512.size a ≤ S3x3584x3584.size a) :
    (landedAt c f1 o3 h3 o4 h4 o5 h5 : sProp 𝕄) ⊢ freeAt c f1 o3 h3 o4 h4 o5 h5 := by
  iintro ⟨H, ⟨%f, Hf⟩, Hw⟩
  isplitl [H]; · iexact H
  isplitl [Hf]; · iexists _; iexact Hf
  iexact Hw

theorem sep7 {a0 a1 a2 a3 a4 a5 a6 b0 b1 b2 b3 b4 b5 b6 : sProp 𝕄} (h0 : a0 = b0) (h1 : a1 = b1) (h2 : a2 = b2) (h3 : a3 = b3) (h4 : a4 = b4) (h5 : a5 = b5) (h6 : a6 = b6) :
    iprop(a0 ∗ a1 ∗ a2 ∗ a3 ∗ a4 ∗ a5 ∗ a6) = iprop(b0 ∗ b1 ∗ b2 ∗ b3 ∗ b4 ∗ b5 ∗ b6) := by
  subst h0; subst h1; subst h2; subst h3; subst h4; subst h5; subst h6; rfl

/-- Seven members one by one. -/
theorem AtW_seven {T : Nat} (hT : T = 7) (Φ : Fin T → Bool → sProp 𝕄) (st : Fin T → Bool) (b : Bool) (hst : ∀ k, st k = b) :
    (Ring.AtW Φ st : sProp 𝕄) = iprop(Φ ⟨0, by omega⟩ b ∗ Φ ⟨1, by omega⟩ b ∗ Φ ⟨2, by omega⟩ b ∗ Φ ⟨3, by omega⟩ b ∗ Φ ⟨4, by omega⟩ b ∗ Φ ⟨5, by omega⟩ b ∗ Φ ⟨6, by omega⟩ b) := by
  subst hT
  have e : st = fun _ => b := funext hst
  subst e
  rw [Ring.AtW_eq_list (σ := Bool) Φ (fun _ => b) [0, 1, 2, 3, 4, 5, 6] (by decide) (by decide)]
  rfl

theorem flight2 (c : Dev nD) (f1 : Buf0 F c A1) :
    (Ring.AtW (wFam c f1 k0_off3 k0_off3_inb k0_off4 k0_off4_inb k0_off5 k0_off5_inb) (stK 0) : sProp 𝕄) = iprop(flightAt c f1 ![0] inb_S21_S1_0 ![0, 0, 0] inb_S21x3584x512_S1x3584x512_0_0_0 ![0, 0, 0] inb_S3x3584x3584_S1x3584x512_0_0_0
      ∗ flightAt c f1 ![1] inb_S21_S1_1 ![1, 0, 0] inb_S21x3584x512_S1x3584x512_1_0_0 ![0, 0, 512] inb_S3x3584x3584_S1x3584x512_0_0_512
      ∗ flightAt c f1 ![2] inb_S21_S1_2 ![2, 0, 0] inb_S21x3584x512_S1x3584x512_2_0_0 ![0, 0, 1024] inb_S3x3584x3584_S1x3584x512_0_0_1024
      ∗ flightAt c f1 ![3] inb_S21_S1_3 ![3, 0, 0] inb_S21x3584x512_S1x3584x512_3_0_0 ![0, 0, 1536] inb_S3x3584x3584_S1x3584x512_0_0_1536
      ∗ flightAt c f1 ![4] inb_S21_S1_4 ![4, 0, 0] inb_S21x3584x512_S1x3584x512_4_0_0 ![0, 0, 2048] inb_S3x3584x3584_S1x3584x512_0_0_2048
      ∗ flightAt c f1 ![5] inb_S21_S1_5 ![5, 0, 0] inb_S21x3584x512_S1x3584x512_5_0_0 ![0, 0, 2560] inb_S3x3584x3584_S1x3584x512_0_0_2560
      ∗ flightAt c f1 ![6] inb_S21_S1_6 ![6, 0, 0] inb_S21x3584x512_S1x3584x512_6_0_0 ![0, 0, 3072] inb_S3x3584x3584_S1x3584x512_0_0_3072) :=
  (AtW_seven (by decide) _ _ true fun k => by simp [stK]).trans (sep7
    ((wFam_true c f1 _ _ _ _ _ _ _).trans (flightAt_congr c f1 (k0_off3_eq ⟨0, by decide⟩) (k0_off4_eq ⟨0, by decide⟩) (k0_off5_eq ⟨0, by decide⟩)))
    ((wFam_true c f1 _ _ _ _ _ _ _).trans (flightAt_congr c f1 (k0_off3_eq ⟨1, by decide⟩) (k0_off4_eq ⟨1, by decide⟩) (k0_off5_eq ⟨1, by decide⟩)))
    ((wFam_true c f1 _ _ _ _ _ _ _).trans (flightAt_congr c f1 (k0_off3_eq ⟨2, by decide⟩) (k0_off4_eq ⟨2, by decide⟩) (k0_off5_eq ⟨2, by decide⟩)))
    ((wFam_true c f1 _ _ _ _ _ _ _).trans (flightAt_congr c f1 (k0_off3_eq ⟨3, by decide⟩) (k0_off4_eq ⟨3, by decide⟩) (k0_off5_eq ⟨3, by decide⟩)))
    ((wFam_true c f1 _ _ _ _ _ _ _).trans (flightAt_congr c f1 (k0_off3_eq ⟨4, by decide⟩) (k0_off4_eq ⟨4, by decide⟩) (k0_off5_eq ⟨4, by decide⟩)))
    ((wFam_true c f1 _ _ _ _ _ _ _).trans (flightAt_congr c f1 (k0_off3_eq ⟨5, by decide⟩) (k0_off4_eq ⟨5, by decide⟩) (k0_off5_eq ⟨5, by decide⟩)))
    ((wFam_true c f1 _ _ _ _ _ _ _).trans (flightAt_congr c f1 (k0_off3_eq ⟨6, by decide⟩) (k0_off4_eq ⟨6, by decide⟩) (k0_off5_eq ⟨6, by decide⟩))))

theorem landed2 (c : Dev nD) (f1 : Buf0 F c A1) :
    (Ring.AtW (wFam c f1 k0_off3 k0_off3_inb k0_off4 k0_off4_inb k0_off5 k0_off5_inb) (stK k0_t2_loop.trips) : sProp 𝕄) = iprop(landedAt c f1 ![0] inb_S21_S1_0 ![0, 0, 0] inb_S21x3584x512_S1x3584x512_0_0_0 ![0, 0, 0] inb_S3x3584x3584_S1x3584x512_0_0_0
      ∗ landedAt c f1 ![1] inb_S21_S1_1 ![1, 0, 0] inb_S21x3584x512_S1x3584x512_1_0_0 ![0, 0, 512] inb_S3x3584x3584_S1x3584x512_0_0_512
      ∗ landedAt c f1 ![2] inb_S21_S1_2 ![2, 0, 0] inb_S21x3584x512_S1x3584x512_2_0_0 ![0, 0, 1024] inb_S3x3584x3584_S1x3584x512_0_0_1024
      ∗ landedAt c f1 ![3] inb_S21_S1_3 ![3, 0, 0] inb_S21x3584x512_S1x3584x512_3_0_0 ![0, 0, 1536] inb_S3x3584x3584_S1x3584x512_0_0_1536
      ∗ landedAt c f1 ![4] inb_S21_S1_4 ![4, 0, 0] inb_S21x3584x512_S1x3584x512_4_0_0 ![0, 0, 2048] inb_S3x3584x3584_S1x3584x512_0_0_2048
      ∗ landedAt c f1 ![5] inb_S21_S1_5 ![5, 0, 0] inb_S21x3584x512_S1x3584x512_5_0_0 ![0, 0, 2560] inb_S3x3584x3584_S1x3584x512_0_0_2560
      ∗ landedAt c f1 ![6] inb_S21_S1_6 ![6, 0, 0] inb_S21x3584x512_S1x3584x512_6_0_0 ![0, 0, 3072] inb_S3x3584x3584_S1x3584x512_0_0_3072) :=
  (AtW_seven (by decide) _ _ false fun k => by simp [stK, k.isLt]).trans (sep7
    ((wFam_false c f1 _ _ _ _ _ _ _).trans (landedAt_congr c f1 (k0_off3_eq ⟨0, by decide⟩) (k0_off4_eq ⟨0, by decide⟩) (k0_off5_eq ⟨0, by decide⟩)))
    ((wFam_false c f1 _ _ _ _ _ _ _).trans (landedAt_congr c f1 (k0_off3_eq ⟨1, by decide⟩) (k0_off4_eq ⟨1, by decide⟩) (k0_off5_eq ⟨1, by decide⟩)))
    ((wFam_false c f1 _ _ _ _ _ _ _).trans (landedAt_congr c f1 (k0_off3_eq ⟨2, by decide⟩) (k0_off4_eq ⟨2, by decide⟩) (k0_off5_eq ⟨2, by decide⟩)))
    ((wFam_false c f1 _ _ _ _ _ _ _).trans (landedAt_congr c f1 (k0_off3_eq ⟨3, by decide⟩) (k0_off4_eq ⟨3, by decide⟩) (k0_off5_eq ⟨3, by decide⟩)))
    ((wFam_false c f1 _ _ _ _ _ _ _).trans (landedAt_congr c f1 (k0_off3_eq ⟨4, by decide⟩) (k0_off4_eq ⟨4, by decide⟩) (k0_off5_eq ⟨4, by decide⟩)))
    ((wFam_false c f1 _ _ _ _ _ _ _).trans (landedAt_congr c f1 (k0_off3_eq ⟨5, by decide⟩) (k0_off4_eq ⟨5, by decide⟩) (k0_off5_eq ⟨5, by decide⟩)))
    ((wFam_false c f1 _ _ _ _ _ _ _).trans (landedAt_congr c f1 (k0_off3_eq ⟨6, by decide⟩) (k0_off4_eq ⟨6, by decide⟩) (k0_off5_eq ⟨6, by decide⟩))))

theorem flight3 (c : Dev nD) (f1 : Buf0 F c A1) :
    (Ring.AtW (wFam c f1 k0_off10 k0_off10_inb k0_off11 k0_off11_inb k0_off12 k0_off12_inb) (stK 0) : sProp 𝕄) = iprop(flightAt c f1 ![7] inb_S21_S1_7 ![7, 0, 0] inb_S21x3584x512_S1x3584x512_7_0_0 ![1, 0, 0] inb_S3x3584x3584_S1x3584x512_1_0_0
      ∗ flightAt c f1 ![8] inb_S21_S1_8 ![8, 0, 0] inb_S21x3584x512_S1x3584x512_8_0_0 ![1, 0, 512] inb_S3x3584x3584_S1x3584x512_1_0_512
      ∗ flightAt c f1 ![9] inb_S21_S1_9 ![9, 0, 0] inb_S21x3584x512_S1x3584x512_9_0_0 ![1, 0, 1024] inb_S3x3584x3584_S1x3584x512_1_0_1024
      ∗ flightAt c f1 ![10] inb_S21_S1_10 ![10, 0, 0] inb_S21x3584x512_S1x3584x512_10_0_0 ![1, 0, 1536] inb_S3x3584x3584_S1x3584x512_1_0_1536
      ∗ flightAt c f1 ![11] inb_S21_S1_11 ![11, 0, 0] inb_S21x3584x512_S1x3584x512_11_0_0 ![1, 0, 2048] inb_S3x3584x3584_S1x3584x512_1_0_2048
      ∗ flightAt c f1 ![12] inb_S21_S1_12 ![12, 0, 0] inb_S21x3584x512_S1x3584x512_12_0_0 ![1, 0, 2560] inb_S3x3584x3584_S1x3584x512_1_0_2560
      ∗ flightAt c f1 ![13] inb_S21_S1_13 ![13, 0, 0] inb_S21x3584x512_S1x3584x512_13_0_0 ![1, 0, 3072] inb_S3x3584x3584_S1x3584x512_1_0_3072) :=
  (AtW_seven (by decide) _ _ true fun k => by simp [stK]).trans (sep7
    ((wFam_true c f1 _ _ _ _ _ _ _).trans (flightAt_congr c f1 (k0_off10_eq ⟨0, by decide⟩) (k0_off11_eq ⟨0, by decide⟩) (k0_off12_eq ⟨0, by decide⟩)))
    ((wFam_true c f1 _ _ _ _ _ _ _).trans (flightAt_congr c f1 (k0_off10_eq ⟨1, by decide⟩) (k0_off11_eq ⟨1, by decide⟩) (k0_off12_eq ⟨1, by decide⟩)))
    ((wFam_true c f1 _ _ _ _ _ _ _).trans (flightAt_congr c f1 (k0_off10_eq ⟨2, by decide⟩) (k0_off11_eq ⟨2, by decide⟩) (k0_off12_eq ⟨2, by decide⟩)))
    ((wFam_true c f1 _ _ _ _ _ _ _).trans (flightAt_congr c f1 (k0_off10_eq ⟨3, by decide⟩) (k0_off11_eq ⟨3, by decide⟩) (k0_off12_eq ⟨3, by decide⟩)))
    ((wFam_true c f1 _ _ _ _ _ _ _).trans (flightAt_congr c f1 (k0_off10_eq ⟨4, by decide⟩) (k0_off11_eq ⟨4, by decide⟩) (k0_off12_eq ⟨4, by decide⟩)))
    ((wFam_true c f1 _ _ _ _ _ _ _).trans (flightAt_congr c f1 (k0_off10_eq ⟨5, by decide⟩) (k0_off11_eq ⟨5, by decide⟩) (k0_off12_eq ⟨5, by decide⟩)))
    ((wFam_true c f1 _ _ _ _ _ _ _).trans (flightAt_congr c f1 (k0_off10_eq ⟨6, by decide⟩) (k0_off11_eq ⟨6, by decide⟩) (k0_off12_eq ⟨6, by decide⟩))))

theorem landed3 (c : Dev nD) (f1 : Buf0 F c A1) :
    (Ring.AtW (wFam c f1 k0_off10 k0_off10_inb k0_off11 k0_off11_inb k0_off12 k0_off12_inb) (stK k0_t3_loop.trips) : sProp 𝕄) = iprop(landedAt c f1 ![7] inb_S21_S1_7 ![7, 0, 0] inb_S21x3584x512_S1x3584x512_7_0_0 ![1, 0, 0] inb_S3x3584x3584_S1x3584x512_1_0_0
      ∗ landedAt c f1 ![8] inb_S21_S1_8 ![8, 0, 0] inb_S21x3584x512_S1x3584x512_8_0_0 ![1, 0, 512] inb_S3x3584x3584_S1x3584x512_1_0_512
      ∗ landedAt c f1 ![9] inb_S21_S1_9 ![9, 0, 0] inb_S21x3584x512_S1x3584x512_9_0_0 ![1, 0, 1024] inb_S3x3584x3584_S1x3584x512_1_0_1024
      ∗ landedAt c f1 ![10] inb_S21_S1_10 ![10, 0, 0] inb_S21x3584x512_S1x3584x512_10_0_0 ![1, 0, 1536] inb_S3x3584x3584_S1x3584x512_1_0_1536
      ∗ landedAt c f1 ![11] inb_S21_S1_11 ![11, 0, 0] inb_S21x3584x512_S1x3584x512_11_0_0 ![1, 0, 2048] inb_S3x3584x3584_S1x3584x512_1_0_2048
      ∗ landedAt c f1 ![12] inb_S21_S1_12 ![12, 0, 0] inb_S21x3584x512_S1x3584x512_12_0_0 ![1, 0, 2560] inb_S3x3584x3584_S1x3584x512_1_0_2560
      ∗ landedAt c f1 ![13] inb_S21_S1_13 ![13, 0, 0] inb_S21x3584x512_S1x3584x512_13_0_0 ![1, 0, 3072] inb_S3x3584x3584_S1x3584x512_1_0_3072) :=
  (AtW_seven (by decide) _ _ false fun k => by simp [stK, k.isLt]).trans (sep7
    ((wFam_false c f1 _ _ _ _ _ _ _).trans (landedAt_congr c f1 (k0_off10_eq ⟨0, by decide⟩) (k0_off11_eq ⟨0, by decide⟩) (k0_off12_eq ⟨0, by decide⟩)))
    ((wFam_false c f1 _ _ _ _ _ _ _).trans (landedAt_congr c f1 (k0_off10_eq ⟨1, by decide⟩) (k0_off11_eq ⟨1, by decide⟩) (k0_off12_eq ⟨1, by decide⟩)))
    ((wFam_false c f1 _ _ _ _ _ _ _).trans (landedAt_congr c f1 (k0_off10_eq ⟨2, by decide⟩) (k0_off11_eq ⟨2, by decide⟩) (k0_off12_eq ⟨2, by decide⟩)))
    ((wFam_false c f1 _ _ _ _ _ _ _).trans (landedAt_congr c f1 (k0_off10_eq ⟨3, by decide⟩) (k0_off11_eq ⟨3, by decide⟩) (k0_off12_eq ⟨3, by decide⟩)))
    ((wFam_false c f1 _ _ _ _ _ _ _).trans (landedAt_congr c f1 (k0_off10_eq ⟨4, by decide⟩) (k0_off11_eq ⟨4, by decide⟩) (k0_off12_eq ⟨4, by decide⟩)))
    ((wFam_false c f1 _ _ _ _ _ _ _).trans (landedAt_congr c f1 (k0_off10_eq ⟨5, by decide⟩) (k0_off11_eq ⟨5, by decide⟩) (k0_off12_eq ⟨5, by decide⟩)))
    ((wFam_false c f1 _ _ _ _ _ _ _).trans (landedAt_congr c f1 (k0_off10_eq ⟨6, by decide⟩) (k0_off11_eq ⟨6, by decide⟩) (k0_off12_eq ⟨6, by decide⟩))))

theorem flight4 (c : Dev nD) (f1 : Buf0 F c A1) :
    (Ring.AtW (wFam c f1 k0_off17 k0_off17_inb k0_off18 k0_off18_inb k0_off19 k0_off19_inb) (stK 0) : sProp 𝕄) = iprop(flightAt c f1 ![14] inb_S21_S1_14 ![14, 0, 0] inb_S21x3584x512_S1x3584x512_14_0_0 ![2, 0, 0] inb_S3x3584x3584_S1x3584x512_2_0_0
      ∗ flightAt c f1 ![15] inb_S21_S1_15 ![15, 0, 0] inb_S21x3584x512_S1x3584x512_15_0_0 ![2, 0, 512] inb_S3x3584x3584_S1x3584x512_2_0_512
      ∗ flightAt c f1 ![16] inb_S21_S1_16 ![16, 0, 0] inb_S21x3584x512_S1x3584x512_16_0_0 ![2, 0, 1024] inb_S3x3584x3584_S1x3584x512_2_0_1024
      ∗ flightAt c f1 ![17] inb_S21_S1_17 ![17, 0, 0] inb_S21x3584x512_S1x3584x512_17_0_0 ![2, 0, 1536] inb_S3x3584x3584_S1x3584x512_2_0_1536
      ∗ flightAt c f1 ![18] inb_S21_S1_18 ![18, 0, 0] inb_S21x3584x512_S1x3584x512_18_0_0 ![2, 0, 2048] inb_S3x3584x3584_S1x3584x512_2_0_2048
      ∗ flightAt c f1 ![19] inb_S21_S1_19 ![19, 0, 0] inb_S21x3584x512_S1x3584x512_19_0_0 ![2, 0, 2560] inb_S3x3584x3584_S1x3584x512_2_0_2560
      ∗ flightAt c f1 ![20] inb_S21_S1_20 ![20, 0, 0] inb_S21x3584x512_S1x3584x512_20_0_0 ![2, 0, 3072] inb_S3x3584x3584_S1x3584x512_2_0_3072) :=
  (AtW_seven (by decide) _ _ true fun k => by simp [stK]).trans (sep7
    ((wFam_true c f1 _ _ _ _ _ _ _).trans (flightAt_congr c f1 (k0_off17_eq ⟨0, by decide⟩) (k0_off18_eq ⟨0, by decide⟩) (k0_off19_eq ⟨0, by decide⟩)))
    ((wFam_true c f1 _ _ _ _ _ _ _).trans (flightAt_congr c f1 (k0_off17_eq ⟨1, by decide⟩) (k0_off18_eq ⟨1, by decide⟩) (k0_off19_eq ⟨1, by decide⟩)))
    ((wFam_true c f1 _ _ _ _ _ _ _).trans (flightAt_congr c f1 (k0_off17_eq ⟨2, by decide⟩) (k0_off18_eq ⟨2, by decide⟩) (k0_off19_eq ⟨2, by decide⟩)))
    ((wFam_true c f1 _ _ _ _ _ _ _).trans (flightAt_congr c f1 (k0_off17_eq ⟨3, by decide⟩) (k0_off18_eq ⟨3, by decide⟩) (k0_off19_eq ⟨3, by decide⟩)))
    ((wFam_true c f1 _ _ _ _ _ _ _).trans (flightAt_congr c f1 (k0_off17_eq ⟨4, by decide⟩) (k0_off18_eq ⟨4, by decide⟩) (k0_off19_eq ⟨4, by decide⟩)))
    ((wFam_true c f1 _ _ _ _ _ _ _).trans (flightAt_congr c f1 (k0_off17_eq ⟨5, by decide⟩) (k0_off18_eq ⟨5, by decide⟩) (k0_off19_eq ⟨5, by decide⟩)))
    ((wFam_true c f1 _ _ _ _ _ _ _).trans (flightAt_congr c f1 (k0_off17_eq ⟨6, by decide⟩) (k0_off18_eq ⟨6, by decide⟩) (k0_off19_eq ⟨6, by decide⟩))))

theorem landed4 (c : Dev nD) (f1 : Buf0 F c A1) :
    (Ring.AtW (wFam c f1 k0_off17 k0_off17_inb k0_off18 k0_off18_inb k0_off19 k0_off19_inb) (stK k0_t4_loop.trips) : sProp 𝕄) = iprop(landedAt c f1 ![14] inb_S21_S1_14 ![14, 0, 0] inb_S21x3584x512_S1x3584x512_14_0_0 ![2, 0, 0] inb_S3x3584x3584_S1x3584x512_2_0_0
      ∗ landedAt c f1 ![15] inb_S21_S1_15 ![15, 0, 0] inb_S21x3584x512_S1x3584x512_15_0_0 ![2, 0, 512] inb_S3x3584x3584_S1x3584x512_2_0_512
      ∗ landedAt c f1 ![16] inb_S21_S1_16 ![16, 0, 0] inb_S21x3584x512_S1x3584x512_16_0_0 ![2, 0, 1024] inb_S3x3584x3584_S1x3584x512_2_0_1024
      ∗ landedAt c f1 ![17] inb_S21_S1_17 ![17, 0, 0] inb_S21x3584x512_S1x3584x512_17_0_0 ![2, 0, 1536] inb_S3x3584x3584_S1x3584x512_2_0_1536
      ∗ landedAt c f1 ![18] inb_S21_S1_18 ![18, 0, 0] inb_S21x3584x512_S1x3584x512_18_0_0 ![2, 0, 2048] inb_S3x3584x3584_S1x3584x512_2_0_2048
      ∗ landedAt c f1 ![19] inb_S21_S1_19 ![19, 0, 0] inb_S21x3584x512_S1x3584x512_19_0_0 ![2, 0, 2560] inb_S3x3584x3584_S1x3584x512_2_0_2560
      ∗ landedAt c f1 ![20] inb_S21_S1_20 ![20, 0, 0] inb_S21x3584x512_S1x3584x512_20_0_0 ![2, 0, 3072] inb_S3x3584x3584_S1x3584x512_2_0_3072) :=
  (AtW_seven (by decide) _ _ false fun k => by simp [stK, k.isLt]).trans (sep7
    ((wFam_false c f1 _ _ _ _ _ _ _).trans (landedAt_congr c f1 (k0_off17_eq ⟨0, by decide⟩) (k0_off18_eq ⟨0, by decide⟩) (k0_off19_eq ⟨0, by decide⟩)))
    ((wFam_false c f1 _ _ _ _ _ _ _).trans (landedAt_congr c f1 (k0_off17_eq ⟨1, by decide⟩) (k0_off18_eq ⟨1, by decide⟩) (k0_off19_eq ⟨1, by decide⟩)))
    ((wFam_false c f1 _ _ _ _ _ _ _).trans (landedAt_congr c f1 (k0_off17_eq ⟨2, by decide⟩) (k0_off18_eq ⟨2, by decide⟩) (k0_off19_eq ⟨2, by decide⟩)))
    ((wFam_false c f1 _ _ _ _ _ _ _).trans (landedAt_congr c f1 (k0_off17_eq ⟨3, by decide⟩) (k0_off18_eq ⟨3, by decide⟩) (k0_off19_eq ⟨3, by decide⟩)))
    ((wFam_false c f1 _ _ _ _ _ _ _).trans (landedAt_congr c f1 (k0_off17_eq ⟨4, by decide⟩) (k0_off18_eq ⟨4, by decide⟩) (k0_off19_eq ⟨4, by decide⟩)))
    ((wFam_false c f1 _ _ _ _ _ _ _).trans (landedAt_congr c f1 (k0_off17_eq ⟨5, by decide⟩) (k0_off18_eq ⟨5, by decide⟩) (k0_off19_eq ⟨5, by decide⟩)))
    ((wFam_false c f1 _ _ _ _ _ _ _).trans (landedAt_congr c f1 (k0_off17_eq ⟨6, by decide⟩) (k0_off18_eq ⟨6, by decide⟩) (k0_off19_eq ⟨6, by decide⟩))))

end Cert.KernelIdeal.Run
-- ==== Proof.Run.Freed.lean ====
/- The seven panels of a pass, before their copies and after. -/
module

public import proofs.«01_k».proof.Proof.Run.Pack

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem sep7_mono {a0 a1 a2 a3 a4 a5 a6 b0 b1 b2 b3 b4 b5 b6 : sProp 𝕄} (h0 : a0 ⊢ b0) (h1 : a1 ⊢ b1) (h2 : a2 ⊢ b2) (h3 : a3 ⊢ b3) (h4 : a4 ⊢ b4) (h5 : a5 ⊢ b5) (h6 : a6 ⊢ b6) :
    iprop(a0 ∗ a1 ∗ a2 ∗ a3 ∗ a4 ∗ a5 ∗ a6) ⊢ iprop(b0 ∗ b1 ∗ b2 ∗ b3 ∗ b4 ∗ b5 ∗ b6) := by
  iintro ⟨H0, H1, H2, H3, H4, H5, H6⟩
  isplitl [H0]; · iapply h0; iexact H0
  isplitl [H1]; · iapply h1; iexact H1
  isplitl [H2]; · iapply h2; iexact H2
  isplitl [H3]; · iapply h3; iexact H3
  isplitl [H4]; · iapply h4; iexact H4
  isplitl [H5]; · iapply h5; iexact H5
  iapply h6; iexact H6

/-- The panels of pass 1, before their copies. -/
abbrev free2 (c : Dev nD) (f1 : Buf0 F c A1) : sProp 𝕄 := iprop(freeAt c f1 ![0] inb_S21_S1_0 ![0, 0, 0] inb_S21x3584x512_S1x3584x512_0_0_0 ![0, 0, 0] inb_S3x3584x3584_S1x3584x512_0_0_0
  ∗ freeAt c f1 ![1] inb_S21_S1_1 ![1, 0, 0] inb_S21x3584x512_S1x3584x512_1_0_0 ![0, 0, 512] inb_S3x3584x3584_S1x3584x512_0_0_512
  ∗ freeAt c f1 ![2] inb_S21_S1_2 ![2, 0, 0] inb_S21x3584x512_S1x3584x512_2_0_0 ![0, 0, 1024] inb_S3x3584x3584_S1x3584x512_0_0_1024
  ∗ freeAt c f1 ![3] inb_S21_S1_3 ![3, 0, 0] inb_S21x3584x512_S1x3584x512_3_0_0 ![0, 0, 1536] inb_S3x3584x3584_S1x3584x512_0_0_1536
  ∗ freeAt c f1 ![4] inb_S21_S1_4 ![4, 0, 0] inb_S21x3584x512_S1x3584x512_4_0_0 ![0, 0, 2048] inb_S3x3584x3584_S1x3584x512_0_0_2048
  ∗ freeAt c f1 ![5] inb_S21_S1_5 ![5, 0, 0] inb_S21x3584x512_S1x3584x512_5_0_0 ![0, 0, 2560] inb_S3x3584x3584_S1x3584x512_0_0_2560
  ∗ freeAt c f1 ![6] inb_S21_S1_6 ![6, 0, 0] inb_S21x3584x512_S1x3584x512_6_0_0 ![0, 0, 3072] inb_S3x3584x3584_S1x3584x512_0_0_3072)
theorem freed2 (c : Dev nD) (f1 : Buf0 F c A1) :
    (Ring.AtW (wFam c f1 k0_off3 k0_off3_inb k0_off4 k0_off4_inb k0_off5 k0_off5_inb) (stK k0_t2_loop.trips) : sProp 𝕄) ⊢ free2 c f1 := by
  rw [landed2]
  exact sep7_mono (free_of_landed c f1 _ _ _ _ _ _) (free_of_landed c f1 _ _ _ _ _ _) (free_of_landed c f1 _ _ _ _ _ _) (free_of_landed c f1 _ _ _ _ _ _) (free_of_landed c f1 _ _ _ _ _ _) (free_of_landed c f1 _ _ _ _ _ _) (free_of_landed c f1 _ _ _ _ _ _)

/-- The panels of pass 2, before their copies. -/
abbrev free3 (c : Dev nD) (f1 : Buf0 F c A1) : sProp 𝕄 := iprop(freeAt c f1 ![7] inb_S21_S1_7 ![7, 0, 0] inb_S21x3584x512_S1x3584x512_7_0_0 ![1, 0, 0] inb_S3x3584x3584_S1x3584x512_1_0_0
  ∗ freeAt c f1 ![8] inb_S21_S1_8 ![8, 0, 0] inb_S21x3584x512_S1x3584x512_8_0_0 ![1, 0, 512] inb_S3x3584x3584_S1x3584x512_1_0_512
  ∗ freeAt c f1 ![9] inb_S21_S1_9 ![9, 0, 0] inb_S21x3584x512_S1x3584x512_9_0_0 ![1, 0, 1024] inb_S3x3584x3584_S1x3584x512_1_0_1024
  ∗ freeAt c f1 ![10] inb_S21_S1_10 ![10, 0, 0] inb_S21x3584x512_S1x3584x512_10_0_0 ![1, 0, 1536] inb_S3x3584x3584_S1x3584x512_1_0_1536
  ∗ freeAt c f1 ![11] inb_S21_S1_11 ![11, 0, 0] inb_S21x3584x512_S1x3584x512_11_0_0 ![1, 0, 2048] inb_S3x3584x3584_S1x3584x512_1_0_2048
  ∗ freeAt c f1 ![12] inb_S21_S1_12 ![12, 0, 0] inb_S21x3584x512_S1x3584x512_12_0_0 ![1, 0, 2560] inb_S3x3584x3584_S1x3584x512_1_0_2560
  ∗ freeAt c f1 ![13] inb_S21_S1_13 ![13, 0, 0] inb_S21x3584x512_S1x3584x512_13_0_0 ![1, 0, 3072] inb_S3x3584x3584_S1x3584x512_1_0_3072)
theorem freed3 (c : Dev nD) (f1 : Buf0 F c A1) :
    (Ring.AtW (wFam c f1 k0_off10 k0_off10_inb k0_off11 k0_off11_inb k0_off12 k0_off12_inb) (stK k0_t3_loop.trips) : sProp 𝕄) ⊢ free3 c f1 := by
  rw [landed3]
  exact sep7_mono (free_of_landed c f1 _ _ _ _ _ _) (free_of_landed c f1 _ _ _ _ _ _) (free_of_landed c f1 _ _ _ _ _ _) (free_of_landed c f1 _ _ _ _ _ _) (free_of_landed c f1 _ _ _ _ _ _) (free_of_landed c f1 _ _ _ _ _ _) (free_of_landed c f1 _ _ _ _ _ _)

/-- The panels of pass 3, before their copies. -/
abbrev free4 (c : Dev nD) (f1 : Buf0 F c A1) : sProp 𝕄 := iprop(freeAt c f1 ![14] inb_S21_S1_14 ![14, 0, 0] inb_S21x3584x512_S1x3584x512_14_0_0 ![2, 0, 0] inb_S3x3584x3584_S1x3584x512_2_0_0
  ∗ freeAt c f1 ![15] inb_S21_S1_15 ![15, 0, 0] inb_S21x3584x512_S1x3584x512_15_0_0 ![2, 0, 512] inb_S3x3584x3584_S1x3584x512_2_0_512
  ∗ freeAt c f1 ![16] inb_S21_S1_16 ![16, 0, 0] inb_S21x3584x512_S1x3584x512_16_0_0 ![2, 0, 1024] inb_S3x3584x3584_S1x3584x512_2_0_1024
  ∗ freeAt c f1 ![17] inb_S21_S1_17 ![17, 0, 0] inb_S21x3584x512_S1x3584x512_17_0_0 ![2, 0, 1536] inb_S3x3584x3584_S1x3584x512_2_0_1536
  ∗ freeAt c f1 ![18] inb_S21_S1_18 ![18, 0, 0] inb_S21x3584x512_S1x3584x512_18_0_0 ![2, 0, 2048] inb_S3x3584x3584_S1x3584x512_2_0_2048
  ∗ freeAt c f1 ![19] inb_S21_S1_19 ![19, 0, 0] inb_S21x3584x512_S1x3584x512_19_0_0 ![2, 0, 2560] inb_S3x3584x3584_S1x3584x512_2_0_2560
  ∗ freeAt c f1 ![20] inb_S21_S1_20 ![20, 0, 0] inb_S21x3584x512_S1x3584x512_20_0_0 ![2, 0, 3072] inb_S3x3584x3584_S1x3584x512_2_0_3072)
theorem freed4 (c : Dev nD) (f1 : Buf0 F c A1) :
    (Ring.AtW (wFam c f1 k0_off17 k0_off17_inb k0_off18 k0_off18_inb k0_off19 k0_off19_inb) (stK k0_t4_loop.trips) : sProp 𝕄) ⊢ free4 c f1 := by
  rw [landed4]
  exact sep7_mono (free_of_landed c f1 _ _ _ _ _ _) (free_of_landed c f1 _ _ _ _ _ _) (free_of_landed c f1 _ _ _ _ _ _) (free_of_landed c f1 _ _ _ _ _ _) (free_of_landed c f1 _ _ _ _ _ _) (free_of_landed c f1 _ _ _ _ _ _) (free_of_landed c f1 _ _ _ _ _ _)

end Cert.KernelIdeal.Run
-- ==== Proof.Run.Vals.lean ====
/- What one trip of the kernel's loops computes, in terms of the vectors it loads. -/
module

public import proofs.«01_k».proof.Proof.Run.Base
public import Idealize.ShloMosaic.Lib.WritesUnit
public import Idealize.ShloMosaic.Lib.Pipeline.Value

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The offsets of tile `n` of the 64 tiles of a panel, four to a row of tiles. -/
abbrev tileOff (n : Nat) : Fin 2 → Nat := ![8 * (n / 4 % 16), 128 * (n % 4)]

theorem tile_slices (n : Nat) : S128x512.Slices (tileOff n) S8x128 := by
  refine ⟨rfl, fun a => ?_⟩
  have h1 : n / 4 % 16 < 16 := Nat.mod_lt _ (by decide)
  have h2 : n % 4 < 4 := Nat.mod_lt _ (by decide)
  fin_cases a
  · show 8 * (n / 4 % 16) + 8 ≤ 128; omega
  · show 128 * (n % 4) + 128 ≤ 512; omega

/-- The absolute values of one 8 x 128 tile of a panel. -/
def tile (v : FVec F S128x512 .f32) (n : Nat) : FVec F S8x128 .f32 := absf (extractStridedSlice S8x128 (tileOff n) v (tile_slices n))

/-- The maximum of `2 ^ d` neighbouring tiles, the `n`th group of that many, taken pairwise. -/
def foldT (v : FVec F S128x512 .f32) : Nat → Nat → FVec F S8x128 .f32
  | 0, n => tile v n
  | d + 1, n => maximumf (foldT v d (2 * n)) (foldT v d (2 * n + 1))

/-- A running maximum over the panels' tiles: the value before panel `k`. -/
def amaxUpTo {T : Nat} (init : FVec F S8x128 .f32) (v : Fin T → FVec F S128x512 .f32) : Nat → FVec F S8x128 .f32
  | 0 => init
  | k + 1 => if h : k < T then maximumf (amaxUpTo init v k) (foldT (v ⟨k, h⟩) 6 0) else amaxUpTo init v k

theorem amaxUpTo_succ {T : Nat} (init : FVec F S8x128 .f32) (v : Fin T → FVec F S128x512 .f32) (k : Fin T) :
    amaxUpTo init v (k.val + 1) = maximumf (amaxUpTo init v k.val) (foldT (v k) 6 0) := by
  rw [amaxUpTo, dif_pos k.isLt]

/-- A cast to the same shape changes nothing. -/
theorem pay174_eq (v : FVec F S128x512 .f32) : k0_pay174 v = v := shapeCast_self v _
theorem pay283_eq (v : FVec F S128x512 .bf16) : k0_pay283 v = v := shapeCast_self v _

section Panels
variable {κ : Kind} {sp : Space} {s : Shape} {e : EltTy} {Val : EltTy → Type} (v : View sig κ sp s e)
  {off off' size : Fin s.rank → Nat} (h : ∀ a, off a + size a ≤ s.size a) (h' : ∀ a, off' a + size a ≤ s.size a)

/-- A panel just written reads as what was written. -/
theorem readAt_panel_self (f : v.ty.Contents Val) (w : (Rect.unit off size h).shape.Idx → Val e) :
    v.readAt Val (Rect.unit off size h).toLoadRect (v.writes Val f [⟨Rect.unit off size h, w⟩]) = w := by
  funext x
  exact View.read_writes_cons_emb v f (Rect.unit off size h) w [] x

/-- A panel apart from the one just written reads as before. -/
theorem readAt_panel_ne (f : v.ty.Contents Val) (w : (Rect.unit off size h).shape.Idx → Val e) (a : Fin s.rank)
    (ha : off' a + size a ≤ off a ∨ off a + size a ≤ off' a) :
    v.readAt Val (Rect.unit off' size h').toLoadRect (v.writes Val f [⟨Rect.unit off size h, w⟩])
      = v.readAt Val (Rect.unit off' size h').toLoadRect f := by
  funext x
  show v.read Val _ _ = v.read Val f _
  rw [View.read_writes_cons_unit_of_not_mem v f h w [] _ rfl a]
  · rfl
  · have hx := (x a).isLt
    have hx : (x a).val < size a := hx
    show off' a + 1 * (x a).val < off a ∨ off a + size a ≤ off' a + 1 * (x a).val
    omega

/-- Of panels side by side, those before `k` hold `P`; with the `k`th written, those before `k + 1` do. -/
theorem panels_step {T : Nat} {o : Fin T → Fin s.rank → Nat} (ho : ∀ k a, o k a + size a ≤ s.size a) (a : Fin s.rank)
    (ha : ∀ k, o k a = size a * k.val) (f : v.ty.Contents Val) (k : Fin T) (P Q : Fin T → ((⟨s.rank, size⟩ : Shape).Idx → Val e))
    (hf : (fun j => v.readAt Val (Rect.unit (o j) size (ho j)).toLoadRect f) = fun j => if j.val < k.val then P j else Q j) :
    (fun j => v.readAt Val (Rect.unit (o j) size (ho j)).toLoadRect (v.writes Val f [⟨Rect.unit (o k) size (ho k), P k⟩])) = fun j => if j.val < k.val + 1 then P j else Q j := by
  funext j
  show v.readAt Val (Rect.unit (o j) size (ho j)).toLoadRect (v.writes Val f [⟨Rect.unit (o k) size (ho k), P k⟩]) = if j.val < k.val + 1 then P j else Q j
  by_cases hj : j = k
  · subst hj; rw [readAt_panel_self v (ho j) f (P j), if_pos (Nat.lt_succ_self _)]
  · have hv : j.val ≠ k.val := fun h => hj (Fin.ext h)
    rw [readAt_panel_ne v (ho k) (ho j) f _ a]
    · refine (congrFun hf j).trans ?_
      show (if j.val < k.val then P j else Q j) = if j.val < k.val + 1 then P j else Q j
      by_cases hlt : j.val < k.val
      · rw [if_pos hlt, if_pos (by omega)]
      · rw [if_neg hlt, if_neg (by omega)]
    · rw [ha j, ha k]
      rcases Nat.lt_or_gt_of_ne hv with h1 | h1
      · left; exact (Nat.mul_succ (size a) j.val).symm.le.trans (Nat.mul_le_mul_left _ h1)
      · right; exact (Nat.mul_succ (size a) k.val).symm.le.trans (Nat.mul_le_mul_left _ h1)
end Panels

end Cert.KernelIdeal.Run
-- ==== Proof.Run.Whole.lean ====
/- What the kernel computes, as functions of its whole operands, and what its loads read. -/
module

public import proofs.«01_k».proof.Proof.Run.Vals
public import Idealize.ShloMosaic.Lib.Pointwise
public import Idealize.ShloMosaic.Lib.VecWindow

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Panels of whole arrays -/

theorem panel_lt (k : Fin 7) {n : Nat} (h : n < 512) : 512 * k.val + n < 3584 := by have := k.isLt; omega

/-- Panel `k` of a 128 x 3584 array. -/
def colP {α : Type} (v : S128x3584.Idx → α) (k : Fin 7) : S128x512.Idx → α := fun i => v (ix2 (i 0) ⟨512 * k.val + (i 1).val, panel_lt k (i 1).isLt⟩)
/-- Panel `k` of row `l` of a 3 x 3584 array. -/
def rowP {α : Type} (v : S3x3584.Idx → α) (l : Fin 3) (k : Fin 7) : S1x512.Idx → α := fun i => v (ix2 l ⟨512 * k.val + (i 1).val, panel_lt k (i 1).isLt⟩)
/-- Panel `k` of matrix `l` of the weights. -/
def wP {α : Type} (v : S3x3584x3584.Idx → α) (l : Fin 3) (k : Fin 7) : S1x3584x512.Idx → α :=
  fun i => v (ix3 l (i 1) ⟨512 * k.val + (i 2).val, panel_lt k (i 2).isLt⟩)
/-- Seven panels side by side. -/
def paste2 {α : Type} (p : Fin 7 → S128x512.Idx → α) : S128x3584.Idx → α :=
  fun i => p ⟨(i 1).val / 512, Nat.div_lt_of_lt_mul (i 1).isLt⟩ (ix2 (i 0) ⟨(i 1).val % 512, Nat.mod_lt _ (by decide)⟩)
/-- Seven panels side by side, under a leading unit axis. -/
def paste3 {α : Type} (p : Fin 7 → S1x128x512.Idx → α) : S1x128x3584.Idx → α :=
  fun i => p ⟨(i 2).val / 512, Nat.div_lt_of_lt_mul (i 2).isLt⟩ (ix3 0 (i 1) ⟨(i 2).val % 512, Nat.mod_lt _ (by decide)⟩)

section
variable (x : FVec F S128x3584 .bf16) (w : FVec F S3x3584x3584 .fp8e4m3) (ws b : FVec F S3x3584 .f32) (h : FVec F S3x16 .f32)

/-- The scales, one per layer. -/
def sV : FVec F S3x1 .f32 := k0_pay263 (k0_pay260 h) k0_pay261
/-- Their inverses. -/
def iV : FVec F S3x1 .f32 := k0_pay264 (k0_pay260 h) k0_pay261
/-- The first layer's codes. -/
def codes0 : FVec F S1x128x3584 .fp8e4m3 := paste3 fun k => k0_pay2 (iV h) (colP x k)
/-- The first layer's result, a panel of it. -/
def N2 (k : Fin 7) : FVec F S128x512 .f32 := k0_pay89 (sV h) (codes0 x h) (wP w 0 k) (rowP ws 0 k) (rowP b 0 k) (colP x k)
/-- The second layer's codes. -/
def codes1 : FVec F S1x128x3584 .fp8e4m3 := paste3 fun k => k0_pay92 (N2 x w ws b h k) (k0_pay91 (iV h))
/-- The second layer's result, a panel of it. -/
def N3 (k : Fin 7) : FVec F S128x512 .f32 := k0_pay173 (sV h) (codes1 x w ws b h) (wP w 1 k) (rowP ws 1 k) (rowP b 1 k) (colP x k) (N2 x w ws b h k)
/-- The last layer's codes. -/
def codes2 : FVec F S1x128x3584 .fp8e4m3 := paste3 fun k => k0_pay175 (iV h) (N3 x w ws b h k)
/-- The last layer's result, a panel of it. -/
def N4 (k : Fin 7) : FVec F S128x512 .bf16 := k0_pay259 (sV h) (codes2 x w ws b h) (wP w 2 k) (rowP ws 2 k) (rowP b 2 k) (colP x k) (N3 x w ws b h k)
/-- The running maxima of the three layers' inputs. -/
def M0 : FVec F S8x128 .f32 := amaxUpTo k0_pay268 (fun k : Fin 7 => k0_pay1 (colP x k)) 7
def M1 : FVec F S8x128 .f32 := amaxUpTo k0_pay274 (N2 x w ws b h) 7
def M2 : FVec F S8x128 .f32 := amaxUpTo k0_pay278 (N3 x w ws b h) 7
/-- The new history. -/
def newHist : FVec F S3x16 .f32 :=
  k0_pay287 (iota Kind.tc S3x16 32 [1] iota_S3x16_d1_w32) (iota Kind.tc S3x16 32 [0] iota_S3x16_d0_w32) k0_pay284 k0_pay285
    (k0_pay286 (k0_pay273 (M0 x))) (k0_pay277 (M1 x w ws b h)) (k0_pay282 (M2 x w ws b h)) h

/-- The eight results. -/
def R0 : FVec F S128x3584 .bf16 := paste2 (N4 x w ws b h)
def R1 : FVec F S128x3584 .fp8e4m3 := shapeCast S128x3584 (codes0 x h) shapeCasts_S1x128x3584_S128x3584
def R2 : FVec F S1x1 .f32 := shapeCast S1x1 (k0_pay265 (k0_pay260 h) k0_pay261) (by decide)
def R3 : FVec F S128x3584 .fp8e4m3 := shapeCast S128x3584 (codes1 x w ws b h) shapeCasts_S1x128x3584_S128x3584
def R4 : FVec F S1x1 .f32 := shapeCast S1x1 (k0_pay266 (k0_pay260 h) k0_pay261) (by decide)
def R5 : FVec F S128x3584 .fp8e4m3 := shapeCast S128x3584 (codes2 x w ws b h) shapeCasts_S1x128x3584_S128x3584
def R6 : FVec F S1x1 .f32 := shapeCast S1x1 (k0_pay267 (k0_pay260 h) k0_pay261) (by decide)
end

/-! ## What the loads read -/

section Reads
variable {κ : Kind} {sp : Space} {s : Shape} {e : EltTy} {Val : EltTy → Type}

theorem readAt_unit_at (v : View sig κ sp s e) {off size : Fin s.rank → Nat} (h : ∀ a, off a + size a ≤ s.size a) (f : v.ty.Contents Val)
    (i : (Rect.unit off size h).shape.Idx) (y : s.Idx) (hy : ∀ a, (y a).val = off a + (i a).val) :
    v.readAt Val (Rect.unit off size h).toLoadRect f i = v.read Val f y := by
  show v.read Val f _ = v.read Val f y
  congr 1
  funext a
  apply Fin.ext
  show off a + 1 * (i a).val = (y a).val
  rw [hy a, Nat.one_mul]

/-- A squeezed slice reads as the slice's load, cast. -/
theorem read_squeeze (M : Memref sig κ sp s e) (r : Rect s) (hr : ∀ a, r.stride a = 1) {t : Shape} (hs : r.shape.Squeezes t) (hc : r.shape.ShapeCasts t) (f : M.view.ty.Contents Val) :
    ((M.slice r hr).squeeze t hs).view.read Val f = shapeCast t (M.view.readAt Val r.toLoadRect f) hc := rfl
end Reads

end Cert.KernelIdeal.Run
-- ==== Proof.Run.Loop1.lean ====
/- The first loop: it quantises the input panel by panel and takes the maximum of its absolute values. -/
module

public import proofs.«01_k».proof.Proof.Run.Vals

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Panel `k` of the input. -/
abbrev x1 (c : Dev nD) (f13 : Buf0 F c X13) (k : Fin k0_t1_loop.trips) : Vec F S128x512 .bf16 :=
  X13.view.readAt (Elt F) (Rect.unit (s := S128x3584) (k0_off1 k) S128x512.size (k0_off1_inb k)).toLoadRect f13

set_option maxRecDepth 65536 in
/-- One trip: panel `k`'s codes are written, and its maxima joined to the running ones. -/
theorem trip1 (c : Dev nD) (f13 : Buf0 F c X13) (f19 : Buf0 F c X19) (v172 v173 : IVec S3x1 32) (k : Fin k0_t1_loop.trips) (acc : FVec F S8x128 .f32) :
    iprop(pt c X13 f13 ∗ ptS c cSlab0 f19)
    ⊢ wp frame (wpE defs₀ Variants.none (c : Thread nD τ) none) Set.univ (k0_t1_body (F := F) A0 (Memref.isWhole_whole _) A1 (Memref.isWhole_whole _) A2 (Memref.isWhole_whole _) A3 (Memref.isWhole_whole _) A4 (Memref.isWhole_whole _) O0 (Memref.isWhole_whole _) O1 (Memref.isWhole_whole _) O2 (Memref.isWhole_whole _) O3 (Memref.isWhole_whole _) O4 (Memref.isWhole_whole _) O5 (Memref.isWhole_whole _) O6 (Memref.isWhole_whole _) O7 (Memref.isWhole_whole _) X13 (Memref.isWhole_whole _) X14 (Memref.isWhole_whole _) X15 (Memref.isWhole_whole _) X16 (Memref.isWhole_whole _) X17 (Memref.isWhole_whole _) X18 (Memref.isWhole_whole _) X19 (Memref.isWhole_whole _) X20 (Memref.isWhole_whole _) X21 (Memref.isWhole_whole _) X22 (Memref.isWhole_whole _) X23 (Memref.isWhole_whole _) cc0_scratch11 cc0_scratch12 cc0_scratch13 v172 v173 k acc)
      (fun r => iprop(⌜r = maximumf acc (foldT (k0_pay1 (x1 c f13 k)) 6 0)⌝ ∗ pt c X13 f13
        ∗ ptS c cSlab0 (X19.view.writes (Elt F) f19 [⟨(Rect.unit (s := S3x128x3584) (k0_off2 k) S1x128x512.size (k0_off2_inb k)), k0_pay2 (k0_pay264 v172 v173) (x1 c f13 k)⟩]))) := by
  have hk : k.val < 7 := Nat.lt_of_lt_of_le k.isLt k0_t1_abs.2.1
  unfold k0_t1_body
  iintro ⟨H13, H19⟩
  sl_exec
  sl_step
  isplitl []
  · ipureintro; rfl
  isplitl [H13]
  · iexact H13
  · iexact H19

set_option warn.classDefReducibility false in
/-- The loop: before trip `k` the codes' panels before `k` are written, and the running maxima are those of the panels before `k`. -/
@[sl_loop] def loop1 (c : Dev nD) (f13 : Buf0 F c X13) (g19 : Buf0 F c X19) (v172 v173 : IVec S3x1 32) (init : FVec F S8x128 .f32) :
    LoopInvTy_k0_t1 (F := F) Unit ℕ (Pipeline.UD sig nD τ) ℕ Variants.none c none Set.univ A0 (Memref.isWhole_whole _) A1 (Memref.isWhole_whole _) A2 (Memref.isWhole_whole _) A3 (Memref.isWhole_whole _) A4 (Memref.isWhole_whole _) O0 (Memref.isWhole_whole _) O1 (Memref.isWhole_whole _) O2 (Memref.isWhole_whole _) O3 (Memref.isWhole_whole _) O4 (Memref.isWhole_whole _) O5 (Memref.isWhole_whole _) O6 (Memref.isWhole_whole _) O7 (Memref.isWhole_whole _) X13 (Memref.isWhole_whole _) X14 (Memref.isWhole_whole _) X15 (Memref.isWhole_whole _) X16 (Memref.isWhole_whole _) X17 (Memref.isWhole_whole _) X18 (Memref.isWhole_whole _) X19 (Memref.isWhole_whole _) X20 (Memref.isWhole_whole _) X21 (Memref.isWhole_whole _) X22 (Memref.isWhole_whole _) X23 (Memref.isWhole_whole _) cc0_scratch11 cc0_scratch12 cc0_scratch13 v172 v173 init where
  inv k acc := iprop(pt c X13 f13
    ∗ (∃ f : Buf0 F c X19, ptS c cSlab0 f ∗ ⌜(fun j : Fin k0_t1_loop.trips =>
        X19.view.readAt (Elt F) (Rect.unit (s := S3x128x3584) (k0_off2 j) S1x128x512.size (k0_off2_inb j)).toLoadRect f) = fun j => if j.val < k then k0_pay2 (k0_pay264 v172 v173) (x1 c f13 j) else X19.view.readAt (Elt F) (Rect.unit (s := S3x128x3584) (k0_off2 j) S1x128x512.size (k0_off2_inb j)).toLoadRect g19⌝)
    ∗ ⌜acc = amaxUpTo init (fun j => k0_pay1 (x1 c f13 j)) k⌝)
  step k acc := by
    iintro ⟨H13, ⟨%f, H19, %hf⟩, %hacc⟩
    iapply (wp_wand_r Idealize.ShloMosaic.frame (wpE (defs₀ (F := F)) Variants.none (c : Thread nD τ) none) Set.univ)
    isplitl [H13 H19]
    · iapply (trip1 c f13 f v172 v173 k acc)
      isplitl [H13]; · iexact H13
      iexact H19
    · iintro %yld ⟨%hy, H13, H19⟩
      isplitl [H13]; · iexact H13
      isplitl [H19]
      · iexists _; isplitl [H19]; · iexact H19
        ipureintro
        exact panels_step X19.view (o := k0_off2) k0_off2_inb 2 (fun k => by rw [k0_off2_eq]; rfl) f k (fun j => k0_pay2 (k0_pay264 v172 v173) (x1 c f13 j)) _ hf
      ipureintro; rw [hy, hacc, amaxUpTo_succ]

end Cert.KernelIdeal.Run
-- ==== Proof.Run.Loop2.lean ====
/- The first layer, panel by panel: its result, the next layer's codes, and the maximum of the absolute values. -/
module

public import proofs.«01_k».proof.Proof.Run.Vals

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Panel `k` of what the layer computes. -/
abbrev n2 (c : Dev nD) (f1 : Buf0 F c A1) (f13 : Buf0 F c X13) (f15 : Buf0 F c X15) (f16 : Buf0 F c X16) (f19 : Buf0 F c X19)
    (v184 : FVec F S3x1 .f32) (k : Fin k0_t2_loop.trips) : FVec F S128x512 .f32 :=
  k0_pay89 v184 (X19.view.readAt (Elt F) (Rect.unit (s := S3x128x3584) ![0, 0, 0] S1x128x3584.size inb_S3x128x3584_S1x128x3584_0_0_0).toLoadRect f19)
    (X14.view.readAt (Elt F) (Rect.unit (s := S21x3584x512) (k0_off6 k) S1x3584x512.size (k0_off6_inb k)).toLoadRect
      ((wSlot (k0_off4 k) (k0_off4_inb k)).view.writes (Elt F) (wSlot (k0_off4 k) (k0_off4_inb k)).view.junk
        [⟨Rect.whole _, ReadAs.same.apply ((wWin (k0_off5 k) (k0_off5_inb k)).view.read (Elt F) f1)⟩]))
    (X15.view.readAt (Elt F) (Rect.unit (s := S3x3584) (k0_off7 k) S1x512.size (k0_off7_inb k)).toLoadRect f15)
    (X16.view.readAt (Elt F) (Rect.unit (s := S3x3584) (k0_off7 k) S1x512.size (k0_off7_inb k)).toLoadRect f16)
    (X13.view.readAt (Elt F) (Rect.unit (s := S128x3584) (k0_off8 k) S128x512.size (k0_off8_inb k)).toLoadRect f13)

set_option maxRecDepth 65536 in
set_option maxHeartbeats 800000 in
/-- One trip: the panel's copy is waited for, and the panel's results are written. -/
theorem trip2 (c : Dev nD) (f1 : Buf0 F c A1) (f13 : Buf0 F c X13) (f15 : Buf0 F c X15) (f16 : Buf0 F c X16) (f18 : Buf0 F c X18) (f19 f19' : Buf0 F c X19)
    (v184 v189 : FVec F S3x1 .f32) (v206 : FVec F S8x128 .f32) (k : Fin k0_t2_loop.trips) (acc : FVec F S8x128 .f32) (W : Waits sig Unit) :
    iprop((wFam c f1 k0_off3 k0_off3_inb k0_off4 k0_off4_inb k0_off5 k0_off5_inb) k true ∗ pt c X13 f13 ∗ pt c X15 f15 ∗ pt c X16 f16 ∗ pt c X18 f18 ∗ ptL c cSlab0 f19 ∗ ptS c cSlab1 f19' ∗ owes (c : Thread nD τ) 0 W)
    ⊢ wp frame (wpE defs₀ Variants.none (c : Thread nD τ) none) Set.univ (k0_t2_body (F := F) A0 (Memref.isWhole_whole _) A1 (Memref.isWhole_whole _) A2 (Memref.isWhole_whole _) A3 (Memref.isWhole_whole _) A4 (Memref.isWhole_whole _) O0 (Memref.isWhole_whole _) O1 (Memref.isWhole_whole _) O2 (Memref.isWhole_whole _) O3 (Memref.isWhole_whole _) O4 (Memref.isWhole_whole _) O5 (Memref.isWhole_whole _) O6 (Memref.isWhole_whole _) O7 (Memref.isWhole_whole _) X13 (Memref.isWhole_whole _) X14 (Memref.isWhole_whole _) X15 (Memref.isWhole_whole _) X16 (Memref.isWhole_whole _) X17 (Memref.isWhole_whole _) X18 (Memref.isWhole_whole _) X19 (Memref.isWhole_whole _) X20 (Memref.isWhole_whole _) X21 (Memref.isWhole_whole _) X22 (Memref.isWhole_whole _) X23 (Memref.isWhole_whole _) cc0_scratch11 cc0_scratch12 cc0_scratch13 v184 v189 v206 k acc)
      (fun r => iprop(⌜r = maximumf acc (foldT (n2 c f1 f13 f15 f16 f19 v184 k) 6 0)⌝ ∗ (wFam c f1 k0_off3 k0_off3_inb k0_off4 k0_off4_inb k0_off5 k0_off5_inb) k false ∗ pt c X13 f13 ∗ pt c X15 f15 ∗ pt c X16 f16
        ∗ pt c X18 (X18.view.writes (Elt F) f18 [⟨(Rect.unit (s := S128x3584) (k0_off8 k) S128x512.size (k0_off8_inb k)), k0_pay174 (n2 c f1 f13 f15 f16 f19 v184 k)⟩]) ∗ ptL c cSlab0 f19
        ∗ ptS c cSlab1 (X19.view.writes (Elt F) f19' [⟨(Rect.unit (s := S3x128x3584) (k0_off9 k) S1x128x512.size (k0_off9_inb k)), k0_pay92 (n2 c f1 f13 f15 f16 f19 v184 k) (k0_pay91 v189)⟩]) ∗ ∃ W, owes (c : Thread nD τ) 0 W)) := by
  have hk : k.val < 7 := Nat.lt_of_lt_of_le k.isLt k0_t2_abs.2.1
  unfold k0_t2_body
  rw [wFam_true, wFam_false]
  iintro ⟨⟨%fw, HF⟩, H13, H15, H16, H18, H19, H19', HO⟩
  sl_exec
  sl_step
  isplitl []
  · ipureintro; rfl
  isplitl [HF HF_dst HF_src]
  · isplitl [HF]; · iexact HF
    isplitl [HF_dst]; · iexists _; iexact HF_dst
    iexact HF_src
  isplitl [H13]; · iexact H13
  isplitl [H15]; · iexact H15
  isplitl [H16]; · iexact H16
  isplitl [H18]; · iexact H18
  isplitl [H19]; · iexact H19
  isplitl [H19']; · iexact H19'
  iexists _; iexact HO

set_option warn.classDefReducibility false in
/-- The loop: before trip `k` the panels before `k` are computed and written, and the weight panels from `k` on are in flight. -/
@[sl_loop] def loop2 (c : Dev nD) (f1 : Buf0 F c A1) (f13 : Buf0 F c X13) (f15 : Buf0 F c X15) (f16 : Buf0 F c X16) (f19 : Buf0 F c X19)
    (v184 v189 : FVec F S3x1 .f32) (v206 : FVec F S8x128 .f32) (g18 : Buf0 F c X18) (g19 : Buf0 F c X19) (init : FVec F S8x128 .f32) :
    LoopInvTy_k0_t2 (F := F) Unit ℕ (Pipeline.UD sig nD τ) ℕ Variants.none c none Set.univ A0 (Memref.isWhole_whole _) A1 (Memref.isWhole_whole _) A2 (Memref.isWhole_whole _) A3 (Memref.isWhole_whole _) A4 (Memref.isWhole_whole _) O0 (Memref.isWhole_whole _) O1 (Memref.isWhole_whole _) O2 (Memref.isWhole_whole _) O3 (Memref.isWhole_whole _) O4 (Memref.isWhole_whole _) O5 (Memref.isWhole_whole _) O6 (Memref.isWhole_whole _) O7 (Memref.isWhole_whole _) X13 (Memref.isWhole_whole _) X14 (Memref.isWhole_whole _) X15 (Memref.isWhole_whole _) X16 (Memref.isWhole_whole _) X17 (Memref.isWhole_whole _) X18 (Memref.isWhole_whole _) X19 (Memref.isWhole_whole _) X20 (Memref.isWhole_whole _) X21 (Memref.isWhole_whole _) X22 (Memref.isWhole_whole _) X23 (Memref.isWhole_whole _) cc0_scratch11 cc0_scratch12 cc0_scratch13 v184 v189 v206 init where
  inv k acc := iprop(Ring.AtW (wFam c f1 k0_off3 k0_off3_inb k0_off4 k0_off4_inb k0_off5 k0_off5_inb) (stK k) ∗ pt c X13 f13 ∗ pt c X15 f15 ∗ pt c X16 f16
    ∗ (∃ f : Buf0 F c X18, pt c X18 f ∗ ⌜(fun j : Fin k0_t2_loop.trips => X18.view.readAt (Elt F) (Rect.unit (s := S128x3584) (k0_off8 j) S128x512.size (k0_off8_inb j)).toLoadRect f) = fun j => if j.val < k then n2 c f1 f13 f15 f16 f19 v184 j else X18.view.readAt (Elt F) (Rect.unit (s := S128x3584) (k0_off8 j) S128x512.size (k0_off8_inb j)).toLoadRect g18⌝)
    ∗ ptL c cSlab0 f19
    ∗ (∃ f : Buf0 F c X19, ptS c cSlab1 f ∗ ⌜(fun j : Fin k0_t2_loop.trips => X19.view.readAt (Elt F) (Rect.unit (s := S3x128x3584) (k0_off9 j) S1x128x512.size (k0_off9_inb j)).toLoadRect f) = fun j => if j.val < k then k0_pay92 (n2 c f1 f13 f15 f16 f19 v184 j) (k0_pay91 v189) else X19.view.readAt (Elt F) (Rect.unit (s := S3x128x3584) (k0_off9 j) S1x128x512.size (k0_off9_inb j)).toLoadRect g19⌝)
    ∗ ⌜acc = amaxUpTo init (fun j => n2 c f1 f13 f15 f16 f19 v184 j) k⌝
    ∗ ∃ W, owes (c : Thread nD τ) 0 W)
  step k acc := by
    rw [Ring.AtW_focus (wFam c f1 k0_off3 k0_off3_inb k0_off4 k0_off4_inb k0_off5 k0_off5_inb) (stK k.val) k, ← stK_succ k, stK_self]
    iintro ⟨⟨HF, HR⟩, H13, H15, H16, ⟨%g, H18, %hg⟩, H19, ⟨%g', H19', %hg'⟩, %hacc, %W, HO⟩
    iapply (wp_wand_r Idealize.ShloMosaic.frame (wpE (defs₀ (F := F)) Variants.none (c : Thread nD τ) none) Set.univ)
    isplitr [HR]
    · iapply (trip2 c f1 f13 f15 f16 g f19 g' v184 v189 v206 k acc W)
      isplitl [HF]; · iexact HF
      isplitl [H13]; · iexact H13
      isplitl [H15]; · iexact H15
      isplitl [H16]; · iexact H16
      isplitl [H18]; · iexact H18
      isplitl [H19]; · iexact H19
      isplitl [H19']; · iexact H19'
      iexact HO
    · iintro %yld ⟨%hy, HF, H13, H15, H16, H18, H19, H19', %W', HO⟩
      isplitl [HF HR]
      · iapply (Ring.AtW_update (wFam c f1 k0_off3 k0_off3_inb k0_off4 k0_off4_inb k0_off5 k0_off5_inb) (stK k.val) k false)
        isplitr [HR]
        · iexact HF
        · iexact HR
      isplitl [H13]; · iexact H13
      isplitl [H15]; · iexact H15
      isplitl [H16]; · iexact H16
      isplitl [H18]
      · iexists _; isplitl [H18]; · iexact H18
        ipureintro
        rw [pay174_eq]
        exact panels_step X18.view (o := k0_off8) k0_off8_inb 1 (fun k => by rw [k0_off8_eq]; rfl) g k (fun j => n2 c f1 f13 f15 f16 f19 v184 j) _ hg
      isplitl [H19]; · iexact H19
      isplitl [H19']
      · iexists _; isplitl [H19']; · iexact H19'
        ipureintro
        exact panels_step X19.view (o := k0_off9) k0_off9_inb 2 (fun k => by rw [k0_off9_eq]; rfl) g' k (fun j => k0_pay92 (n2 c f1 f13 f15 f16 f19 v184 j) (k0_pay91 v189)) _ hg'
      isplitl []
      · ipureintro; rw [hy, hacc, amaxUpTo_succ]
      iexists _; iexact HO

end Cert.KernelIdeal.Run
-- ==== Proof.Run.Loop3.lean ====
/- The second layer, panel by panel: its result, the next layer's codes, and the maximum of the absolute values. -/
module

public import proofs.«01_k».proof.Proof.Run.Vals

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Panel `k` of what the layer computes. -/
abbrev n3 (c : Dev nD) (f1 : Buf0 F c A1) (f13 : Buf0 F c X13) (f15 : Buf0 F c X15) (f16 : Buf0 F c X16) (f19 : Buf0 F c X19) (f18 : Buf0 F c X18)
    (v184 : FVec F S3x1 .f32) (k : Fin k0_t3_loop.trips) : FVec F S128x512 .f32 :=
  k0_pay173 v184 (X19.view.readAt (Elt F) (Rect.unit (s := S3x128x3584) ![1, 0, 0] S1x128x3584.size inb_S3x128x3584_S1x128x3584_1_0_0).toLoadRect f19)
    (X14.view.readAt (Elt F) (Rect.unit (s := S21x3584x512) (k0_off13 k) S1x3584x512.size (k0_off13_inb k)).toLoadRect
      ((wSlot (k0_off11 k) (k0_off11_inb k)).view.writes (Elt F) (wSlot (k0_off11 k) (k0_off11_inb k)).view.junk
        [⟨Rect.whole _, ReadAs.same.apply ((wWin (k0_off12 k) (k0_off12_inb k)).view.read (Elt F) f1)⟩]))
    (X15.view.readAt (Elt F) (Rect.unit (s := S3x3584) (k0_off14 k) S1x512.size (k0_off14_inb k)).toLoadRect f15)
    (X16.view.readAt (Elt F) (Rect.unit (s := S3x3584) (k0_off14 k) S1x512.size (k0_off14_inb k)).toLoadRect f16)
    (X13.view.readAt (Elt F) (Rect.unit (s := S128x3584) (k0_off15 k) S128x512.size (k0_off15_inb k)).toLoadRect f13)
    (X18.view.readAt (Elt F) (Rect.unit (s := S128x3584) (k0_off15 k) S128x512.size (k0_off15_inb k)).toLoadRect f18)

set_option maxRecDepth 65536 in
set_option maxHeartbeats 800000 in
/-- One trip: the panel's copy is waited for, and the panel's results are written. -/
theorem trip3 (c : Dev nD) (f1 : Buf0 F c A1) (f13 : Buf0 F c X13) (f15 : Buf0 F c X15) (f16 : Buf0 F c X16) (f18 : Buf0 F c X18) (f19 f19' : Buf0 F c X19)
    (v184 v189 : FVec F S3x1 .f32) (k : Fin k0_t3_loop.trips) (acc : FVec F S8x128 .f32) (W : Waits sig Unit) :
    iprop((wFam c f1 k0_off10 k0_off10_inb k0_off11 k0_off11_inb k0_off12 k0_off12_inb) k true ∗ pt c X13 f13 ∗ pt c X15 f15 ∗ pt c X16 f16 ∗ pt c X18 f18 ∗ ptL c cSlab1 f19 ∗ ptS c cSlab2 f19' ∗ owes (c : Thread nD τ) 0 W)
    ⊢ wp frame (wpE defs₀ Variants.none (c : Thread nD τ) none) Set.univ (k0_t3_body (F := F) A0 (Memref.isWhole_whole _) A1 (Memref.isWhole_whole _) A2 (Memref.isWhole_whole _) A3 (Memref.isWhole_whole _) A4 (Memref.isWhole_whole _) O0 (Memref.isWhole_whole _) O1 (Memref.isWhole_whole _) O2 (Memref.isWhole_whole _) O3 (Memref.isWhole_whole _) O4 (Memref.isWhole_whole _) O5 (Memref.isWhole_whole _) O6 (Memref.isWhole_whole _) O7 (Memref.isWhole_whole _) X13 (Memref.isWhole_whole _) X14 (Memref.isWhole_whole _) X15 (Memref.isWhole_whole _) X16 (Memref.isWhole_whole _) X17 (Memref.isWhole_whole _) X18 (Memref.isWhole_whole _) X19 (Memref.isWhole_whole _) X20 (Memref.isWhole_whole _) X21 (Memref.isWhole_whole _) X22 (Memref.isWhole_whole _) X23 (Memref.isWhole_whole _) cc0_scratch11 cc0_scratch12 cc0_scratch13 v184 v189 k acc)
      (fun r => iprop(⌜r = maximumf acc (foldT (n3 c f1 f13 f15 f16 f19 f18 v184 k) 6 0)⌝ ∗ (wFam c f1 k0_off10 k0_off10_inb k0_off11 k0_off11_inb k0_off12 k0_off12_inb) k false ∗ pt c X13 f13 ∗ pt c X15 f15 ∗ pt c X16 f16
        ∗ pt c X18 (X18.view.writes (Elt F) f18 [⟨(Rect.unit (s := S128x3584) (k0_off15 k) S128x512.size (k0_off15_inb k)), k0_pay174 (n3 c f1 f13 f15 f16 f19 f18 v184 k)⟩]) ∗ ptL c cSlab1 f19
        ∗ ptS c cSlab2 (X19.view.writes (Elt F) f19' [⟨(Rect.unit (s := S3x128x3584) (k0_off16 k) S1x128x512.size (k0_off16_inb k)), k0_pay175 v189 (n3 c f1 f13 f15 f16 f19 f18 v184 k)⟩]) ∗ ∃ W, owes (c : Thread nD τ) 0 W)) := by
  have hk : k.val < 7 := Nat.lt_of_lt_of_le k.isLt k0_t3_abs.2.1
  unfold k0_t3_body
  rw [wFam_true, wFam_false]
  iintro ⟨⟨%fw, HF⟩, H13, H15, H16, H18, H19, H19', HO⟩
  sl_exec
  sl_step
  isplitl []
  · ipureintro; rfl
  isplitl [HF HF_dst HF_src]
  · isplitl [HF]; · iexact HF
    isplitl [HF_dst]; · iexists _; iexact HF_dst
    iexact HF_src
  isplitl [H13]; · iexact H13
  isplitl [H15]; · iexact H15
  isplitl [H16]; · iexact H16
  isplitl [H18]; · iexact H18
  isplitl [H19]; · iexact H19
  isplitl [H19']; · iexact H19'
  iexists _; iexact HO

set_option warn.classDefReducibility false in
/-- The loop: before trip `k` the panels before `k` are computed and written, and the weight panels from `k` on are in flight. -/
@[sl_loop] def loop3 (c : Dev nD) (f1 : Buf0 F c A1) (f13 : Buf0 F c X13) (f15 : Buf0 F c X15) (f16 : Buf0 F c X16) (f19 : Buf0 F c X19)
    (v184 v189 : FVec F S3x1 .f32) (f18 : Buf0 F c X18) (g19 : Buf0 F c X19) (init : FVec F S8x128 .f32) :
    LoopInvTy_k0_t3 (F := F) Unit ℕ (Pipeline.UD sig nD τ) ℕ Variants.none c none Set.univ A0 (Memref.isWhole_whole _) A1 (Memref.isWhole_whole _) A2 (Memref.isWhole_whole _) A3 (Memref.isWhole_whole _) A4 (Memref.isWhole_whole _) O0 (Memref.isWhole_whole _) O1 (Memref.isWhole_whole _) O2 (Memref.isWhole_whole _) O3 (Memref.isWhole_whole _) O4 (Memref.isWhole_whole _) O5 (Memref.isWhole_whole _) O6 (Memref.isWhole_whole _) O7 (Memref.isWhole_whole _) X13 (Memref.isWhole_whole _) X14 (Memref.isWhole_whole _) X15 (Memref.isWhole_whole _) X16 (Memref.isWhole_whole _) X17 (Memref.isWhole_whole _) X18 (Memref.isWhole_whole _) X19 (Memref.isWhole_whole _) X20 (Memref.isWhole_whole _) X21 (Memref.isWhole_whole _) X22 (Memref.isWhole_whole _) X23 (Memref.isWhole_whole _) cc0_scratch11 cc0_scratch12 cc0_scratch13 v184 v189 init where
  inv k acc := iprop(Ring.AtW (wFam c f1 k0_off10 k0_off10_inb k0_off11 k0_off11_inb k0_off12 k0_off12_inb) (stK k) ∗ pt c X13 f13 ∗ pt c X15 f15 ∗ pt c X16 f16
    ∗ (∃ f : Buf0 F c X18, pt c X18 f ∗ ⌜(fun j : Fin k0_t3_loop.trips => X18.view.readAt (Elt F) (Rect.unit (s := S128x3584) (k0_off15 j) S128x512.size (k0_off15_inb j)).toLoadRect f) = fun j => if j.val < k then n3 c f1 f13 f15 f16 f19 f18 v184 j else X18.view.readAt (Elt F) (Rect.unit (s := S128x3584) (k0_off15 j) S128x512.size (k0_off15_inb j)).toLoadRect f18⌝)
    ∗ ptL c cSlab1 f19
    ∗ (∃ f : Buf0 F c X19, ptS c cSlab2 f ∗ ⌜(fun j : Fin k0_t3_loop.trips => X19.view.readAt (Elt F) (Rect.unit (s := S3x128x3584) (k0_off16 j) S1x128x512.size (k0_off16_inb j)).toLoadRect f) = fun j => if j.val < k then k0_pay175 v189 (n3 c f1 f13 f15 f16 f19 f18 v184 j) else X19.view.readAt (Elt F) (Rect.unit (s := S3x128x3584) (k0_off16 j) S1x128x512.size (k0_off16_inb j)).toLoadRect g19⌝)
    ∗ ⌜acc = amaxUpTo init (fun j => n3 c f1 f13 f15 f16 f19 f18 v184 j) k⌝
    ∗ ∃ W, owes (c : Thread nD τ) 0 W)
  step k acc := by
    rw [Ring.AtW_focus (wFam c f1 k0_off10 k0_off10_inb k0_off11 k0_off11_inb k0_off12 k0_off12_inb) (stK k.val) k, ← stK_succ k, stK_self]
    iintro ⟨⟨HF, HR⟩, H13, H15, H16, ⟨%g, H18, %hg⟩, H19, ⟨%g', H19', %hg'⟩, %hacc, %W, HO⟩
    have hgk := (congrFun hg k).trans (if_neg (Nat.lt_irrefl _))
    iapply (wp_wand_r Idealize.ShloMosaic.frame (wpE (defs₀ (F := F)) Variants.none (c : Thread nD τ) none) Set.univ)
    isplitr [HR]
    · iapply (trip3 c f1 f13 f15 f16 g f19 g' v184 v189 k acc W)
      isplitl [HF]; · iexact HF
      isplitl [H13]; · iexact H13
      isplitl [H15]; · iexact H15
      isplitl [H16]; · iexact H16
      isplitl [H18]; · iexact H18
      isplitl [H19]; · iexact H19
      isplitl [H19']; · iexact H19'
      iexact HO
    · iintro %yld ⟨%hy, HF, H13, H15, H16, H18, H19, H19', %W', HO⟩
      isplitl [HF HR]
      · iapply (Ring.AtW_update (wFam c f1 k0_off10 k0_off10_inb k0_off11 k0_off11_inb k0_off12 k0_off12_inb) (stK k.val) k false)
        isplitr [HR]
        · iexact HF
        · iexact HR
      isplitl [H13]; · iexact H13
      isplitl [H15]; · iexact H15
      isplitl [H16]; · iexact H16
      isplitl [H18]
      · iexists _; isplitl [H18]; · iexact H18
        ipureintro
        rw [pay174_eq]
        have e : n3 c f1 f13 f15 f16 f19 g v184 k = n3 c f1 f13 f15 f16 f19 f18 v184 k := by unfold n3; rw [hgk]
        rw [e]; exact panels_step X18.view (o := k0_off15) k0_off15_inb 1 (fun k => by rw [k0_off15_eq]; rfl) g k (fun j => n3 c f1 f13 f15 f16 f19 f18 v184 j) _ hg
      isplitl [H19]; · iexact H19
      isplitl [H19']
      · iexists _; isplitl [H19']; · iexact H19'
        ipureintro
        have e : n3 c f1 f13 f15 f16 f19 g v184 k = n3 c f1 f13 f15 f16 f19 f18 v184 k := by unfold n3; rw [hgk]
        rw [e]
        exact panels_step X19.view (o := k0_off16) k0_off16_inb 2 (fun k => by rw [k0_off16_eq]; rfl) g' k (fun j => k0_pay175 v189 (n3 c f1 f13 f15 f16 f19 f18 v184 j)) _ hg'
      isplitl []
      · ipureintro; rw [hy, hacc, amaxUpTo_succ]; unfold n3; rw [hgk]
      iexists _; iexact HO

end Cert.KernelIdeal.Run
-- ==== Proof.Run.Loop4.lean ====
/- The last layer, panel by panel: its result is the output. -/
module

public import proofs.«01_k».proof.Proof.Run.Vals

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Panel `k` of what the layer computes. -/
abbrev n4 (c : Dev nD) (f1 : Buf0 F c A1) (f13 : Buf0 F c X13) (f15 : Buf0 F c X15) (f16 : Buf0 F c X16) (f19 : Buf0 F c X19) (f18 : Buf0 F c X18)
    (v184 : FVec F S3x1 .f32) (k : Fin k0_t4_loop.trips) : FVec F S128x512 .bf16 :=
  k0_pay259 v184 (X19.view.readAt (Elt F) (Rect.unit (s := S3x128x3584) ![2, 0, 0] S1x128x3584.size inb_S3x128x3584_S1x128x3584_2_0_0).toLoadRect f19)
    (X14.view.readAt (Elt F) (Rect.unit (s := S21x3584x512) (k0_off20 k) S1x3584x512.size (k0_off20_inb k)).toLoadRect
      ((wSlot (k0_off18 k) (k0_off18_inb k)).view.writes (Elt F) (wSlot (k0_off18 k) (k0_off18_inb k)).view.junk
        [⟨Rect.whole _, ReadAs.same.apply ((wWin (k0_off19 k) (k0_off19_inb k)).view.read (Elt F) f1)⟩]))
    (X15.view.readAt (Elt F) (Rect.unit (s := S3x3584) (k0_off21 k) S1x512.size (k0_off21_inb k)).toLoadRect f15)
    (X16.view.readAt (Elt F) (Rect.unit (s := S3x3584) (k0_off21 k) S1x512.size (k0_off21_inb k)).toLoadRect f16)
    (X13.view.readAt (Elt F) (Rect.unit (s := S128x3584) (k0_off22 k) S128x512.size (k0_off22_inb k)).toLoadRect f13)
    (X18.view.readAt (Elt F) (Rect.unit (s := S128x3584) (k0_off22 k) S128x512.size (k0_off22_inb k)).toLoadRect f18)

set_option maxRecDepth 65536 in
set_option maxHeartbeats 800000 in
/-- One trip: the panel's copy is waited for, and the panel's results are written. -/
theorem trip4 (c : Dev nD) (f1 : Buf0 F c A1) (f13 : Buf0 F c X13) (f15 : Buf0 F c X15) (f16 : Buf0 F c X16) (f18 : Buf0 F c X18) (f19 : Buf0 F c X19) (f20 : Buf0 F c X20)
    (v184 v189 : FVec F S3x1 .f32) (k : Fin k0_t4_loop.trips) (acc : Unit) (W : Waits sig Unit) :
    iprop((wFam c f1 k0_off17 k0_off17_inb k0_off18 k0_off18_inb k0_off19 k0_off19_inb) k true ∗ pt c X13 f13 ∗ pt c X15 f15 ∗ pt c X16 f16 ∗ pt c X18 f18 ∗ ptL c cSlab2 f19 ∗ pt c X20 f20 ∗ owes (c : Thread nD τ) 0 W)
    ⊢ wp frame (wpE defs₀ Variants.none (c : Thread nD τ) none) Set.univ (k0_t4_body (F := F) A0 (Memref.isWhole_whole _) A1 (Memref.isWhole_whole _) A2 (Memref.isWhole_whole _) A3 (Memref.isWhole_whole _) A4 (Memref.isWhole_whole _) O0 (Memref.isWhole_whole _) O1 (Memref.isWhole_whole _) O2 (Memref.isWhole_whole _) O3 (Memref.isWhole_whole _) O4 (Memref.isWhole_whole _) O5 (Memref.isWhole_whole _) O6 (Memref.isWhole_whole _) O7 (Memref.isWhole_whole _) X13 (Memref.isWhole_whole _) X14 (Memref.isWhole_whole _) X15 (Memref.isWhole_whole _) X16 (Memref.isWhole_whole _) X17 (Memref.isWhole_whole _) X18 (Memref.isWhole_whole _) X19 (Memref.isWhole_whole _) X20 (Memref.isWhole_whole _) X21 (Memref.isWhole_whole _) X22 (Memref.isWhole_whole _) X23 (Memref.isWhole_whole _) cc0_scratch11 cc0_scratch12 cc0_scratch13 v184 v189 k acc)
      (fun r => iprop((wFam c f1 k0_off17 k0_off17_inb k0_off18 k0_off18_inb k0_off19 k0_off19_inb) k false ∗ pt c X13 f13 ∗ pt c X15 f15 ∗ pt c X16 f16
        ∗ pt c X18 f18 ∗ ptL c cSlab2 f19
        ∗ pt c X20 (X20.view.writes (Elt F) f20 [⟨(Rect.unit (s := S128x3584) (k0_off22 k) S128x512.size (k0_off22_inb k)), k0_pay283 (n4 c f1 f13 f15 f16 f19 f18 v184 k)⟩]) ∗ ∃ W, owes (c : Thread nD τ) 0 W)) := by
  have hk : k.val < 7 := Nat.lt_of_lt_of_le k.isLt k0_t4_abs.2.1
  unfold k0_t4_body
  rw [wFam_true, wFam_false]
  iintro ⟨⟨%fw, HF⟩, H13, H15, H16, H18, H19, H20, HO⟩
  sl_exec
  sl_step
  isplitl [HF HF_dst HF_src]
  · isplitl [HF]; · iexact HF
    isplitl [HF_dst]; · iexists _; iexact HF_dst
    iexact HF_src
  isplitl [H13]; · iexact H13
  isplitl [H15]; · iexact H15
  isplitl [H16]; · iexact H16
  isplitl [H18]; · iexact H18
  isplitl [H19]; · iexact H19
  isplitl [H20]; · iexact H20
  iexists _; iexact HO

set_option warn.classDefReducibility false in
/-- The loop: before trip `k` the panels before `k` are computed and written, and the weight panels from `k` on are in flight. -/
@[sl_loop] def loop4 (c : Dev nD) (f1 : Buf0 F c A1) (f13 : Buf0 F c X13) (f15 : Buf0 F c X15) (f16 : Buf0 F c X16) (f19 : Buf0 F c X19)
    (v184 v189 : FVec F S3x1 .f32) (f18 : Buf0 F c X18) (g20 : Buf0 F c X20) :
    LoopInvTy_k0_t4 (F := F) Unit ℕ (Pipeline.UD sig nD τ) ℕ Variants.none c none Set.univ A0 (Memref.isWhole_whole _) A1 (Memref.isWhole_whole _) A2 (Memref.isWhole_whole _) A3 (Memref.isWhole_whole _) A4 (Memref.isWhole_whole _) O0 (Memref.isWhole_whole _) O1 (Memref.isWhole_whole _) O2 (Memref.isWhole_whole _) O3 (Memref.isWhole_whole _) O4 (Memref.isWhole_whole _) O5 (Memref.isWhole_whole _) O6 (Memref.isWhole_whole _) O7 (Memref.isWhole_whole _) X13 (Memref.isWhole_whole _) X14 (Memref.isWhole_whole _) X15 (Memref.isWhole_whole _) X16 (Memref.isWhole_whole _) X17 (Memref.isWhole_whole _) X18 (Memref.isWhole_whole _) X19 (Memref.isWhole_whole _) X20 (Memref.isWhole_whole _) X21 (Memref.isWhole_whole _) X22 (Memref.isWhole_whole _) X23 (Memref.isWhole_whole _) cc0_scratch11 cc0_scratch12 cc0_scratch13 v184 v189 where
  inv k acc := iprop(Ring.AtW (wFam c f1 k0_off17 k0_off17_inb k0_off18 k0_off18_inb k0_off19 k0_off19_inb) (stK k) ∗ pt c X13 f13 ∗ pt c X15 f15 ∗ pt c X16 f16
    ∗ pt c X18 f18 ∗ ptL c cSlab2 f19
    ∗ (∃ f : Buf0 F c X20, pt c X20 f ∗ ⌜(fun j : Fin k0_t4_loop.trips => X20.view.readAt (Elt F) (Rect.unit (s := S128x3584) (k0_off22 j) S128x512.size (k0_off22_inb j)).toLoadRect f) = fun j => if j.val < k then n4 c f1 f13 f15 f16 f19 f18 v184 j else X20.view.readAt (Elt F) (Rect.unit (s := S128x3584) (k0_off22 j) S128x512.size (k0_off22_inb j)).toLoadRect g20⌝)
    ∗ ∃ W, owes (c : Thread nD τ) 0 W)
  step k acc := by
    rw [Ring.AtW_focus (wFam c f1 k0_off17 k0_off17_inb k0_off18 k0_off18_inb k0_off19 k0_off19_inb) (stK k.val) k, ← stK_succ k, stK_self]
    iintro ⟨⟨HF, HR⟩, H13, H15, H16, H18, H19, ⟨%g, H20, %hg⟩, %W, HO⟩
    iapply (wp_wand_r Idealize.ShloMosaic.frame (wpE (defs₀ (F := F)) Variants.none (c : Thread nD τ) none) Set.univ)
    isplitr [HR]
    · iapply (trip4 c f1 f13 f15 f16 f18 f19 g v184 v189 k acc W)
      isplitl [HF]; · iexact HF
      isplitl [H13]; · iexact H13
      isplitl [H15]; · iexact H15
      isplitl [H16]; · iexact H16
      isplitl [H18]; · iexact H18
      isplitl [H19]; · iexact H19
      isplitl [H20]; · iexact H20
      iexact HO
    · iintro %yld ⟨HF, H13, H15, H16, H18, H19, H20, %W', HO⟩
      isplitl [HF HR]
      · iapply (Ring.AtW_update (wFam c f1 k0_off17 k0_off17_inb k0_off18 k0_off18_inb k0_off19 k0_off19_inb) (stK k.val) k false)
        isplitr [HR]
        · iexact HF
        · iexact HR
      isplitl [H13]; · iexact H13
      isplitl [H15]; · iexact H15
      isplitl [H16]; · iexact H16
      isplitl [H18]; · iexact H18
      isplitl [H19]; · iexact H19
      isplitl [H20]
      · iexists _; isplitl [H20]; · iexact H20
        ipureintro
        rw [pay283_eq]
        exact panels_step X20.view (o := k0_off22) k0_off22_inb 1 (fun k => by rw [k0_off22_eq]; rfl) g k (fun j => n4 c f1 f13 f15 f16 f19 f18 v184 j) _ hg
      iexists _; iexact HO

end Cert.KernelIdeal.Run
-- ==== Proof.Run.Reads.lean ====
/- What the loads of the kernel read: panels of its whole operands, and of what the passes before wrote. -/
module

public import proofs.«01_k».proof.Proof.Run.Whole
public import Idealize.ShloMosaic.Lib.Pipeline.Value
public import proofs.«01_k».proof.Proof.Run.Loop1
public import proofs.«01_k».proof.Proof.Run.Loop2
public import proofs.«01_k».proof.Proof.Run.Loop3
public import proofs.«01_k».proof.Proof.Run.Loop4

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A trip of a loop of seven, as a panel number. -/
abbrev tk {T : Nat} (hT : T = 7) (k : Fin T) : Fin 7 := ⟨k.val, hT ▸ k.isLt⟩

theorem amaxUpTo_eq {T : Nat} (hT : T = 7) (init : FVec F S8x128 .f32) (v : Fin T → FVec F S128x512 .f32) (v' : Fin 7 → FVec F S128x512 .f32)
    (h : ∀ k, v k = v' (tk hT k)) (n : Nat) (hn : n = 7) : amaxUpTo init v n = amaxUpTo init v' 7 := by
  subst hT; subst hn
  have e : v = v' := funext h
  rw [e]

section
variable {κ : Kind} {sp : Space} {e : EltTy} {Val : EltTy → Type}

theorem read_colP (v : View sig κ sp S128x3584 e) (f : v.ty.Contents Val) {o : Fin 2 → Nat} (h : ∀ a, o a + S128x512.size a ≤ S128x3584.size a) (k : Fin 7) (ho : o = ![0, 512 * k.val]) :
    v.readAt Val (Rect.unit (s := S128x3584) o S128x512.size h).toLoadRect f = colP (v.read Val f) k := by
  subst ho
  funext i
  refine readAt_unit_at v h f i _ fun a => ?_
  fin_cases a
  · show (i 0).val = 0 + (i 0).val; omega
  · rfl

theorem read_rowP (v : View sig κ sp S3x3584 e) (f : v.ty.Contents Val) {o : Fin 2 → Nat} (h : ∀ a, o a + S1x512.size a ≤ S3x3584.size a) (l : Fin 3) (k : Fin 7) (ho : o = ![l.val, 512 * k.val]) :
    v.readAt Val (Rect.unit (s := S3x3584) o S1x512.size h).toLoadRect f = rowP (v.read Val f) l k := by
  subst ho
  funext i
  refine readAt_unit_at v h f i _ fun a => ?_
  have h0 : (i 0).val < 1 := (i 0).isLt
  fin_cases a
  · show l.val = l.val + (i 0).val; omega
  · rfl

theorem read_wP (v : View sig κ sp S3x3584x3584 e) (f : v.ty.Contents Val) {o : Fin 3 → Nat} (h : ∀ a, o a + S1x3584x512.size a ≤ S3x3584x3584.size a) (l : Fin 3) (k : Fin 7) (ho : o = ![l.val, 0, 512 * k.val]) :
    v.readAt Val (Rect.unit (s := S3x3584x3584) o S1x3584x512.size h).toLoadRect f = wP (v.read Val f) l k := by
  subst ho
  funext i
  refine readAt_unit_at v h f i _ fun a => ?_
  have h0 : (i 0).val < 1 := (i 0).isLt
  fin_cases a
  · show l.val = l.val + (i 0).val; omega
  · show (i 1).val = 0 + (i 1).val; omega
  · rfl

/-- A slab whose panels are known reads as the panels side by side. -/
theorem read_slab {T : Nat} (hT : T = 7) (v : View sig κ sp S3x128x3584 e) (f : v.ty.Contents Val) (l : Fin 3) {ol : Fin 3 → Nat} (hol : ol = ![l.val, 0, 0])
    (hl : ∀ a, ol a + S1x128x3584.size a ≤ S3x128x3584.size a) {o : Fin T → Fin 3 → Nat} (ho : ∀ k a, o k a + S1x128x512.size a ≤ S3x128x3584.size a)
    (hoe : ∀ k, o k = ![l.val, 0, 512 * k.val]) (n : Nat) (hn : n = 7) (P' : Fin T → S1x128x512.Idx → Val e) (P : Fin 7 → S1x128x512.Idx → Val e) (hP : ∀ k, P' k = P (tk hT k))
    (Q : Fin T → S1x128x512.Idx → Val e)
    (hf : (fun j => v.readAt Val (Rect.unit (s := S3x128x3584) (o j) S1x128x512.size (ho j)).toLoadRect f) = fun j => if j.val < n then P' j else Q j) :
    v.readAt Val (Rect.unit (s := S3x128x3584) ol S1x128x3584.size hl).toLoadRect f = paste3 P := by
  subst hT; subst hn; subst hol
  funext i
  have h0 : (i 0).val < 1 := (i 0).isLt
  have h1 : (i 1).val < 128 := (i 1).isLt
  have h2 : (i 2).val < 3584 := (i 2).isLt
  let j : Fin 7 := ⟨(i 2).val / 512, by omega⟩
  have hj := congrFun hf j
  have hj' : v.readAt Val (Rect.unit (s := S3x128x3584) (o j) S1x128x512.size (ho j)).toLoadRect f = P j := by
    refine hj.trans ?_
    show (if j.val < 7 then P' j else Q j) = P j
    rw [if_pos j.isLt, hP j]
  show _ = P j (ix3 0 (i 1) ⟨(i 2).val % 512, _⟩)
  rw [← hj']
  let y : S3x128x3584.Idx := ix3 l (i 1) (i 2)
  rw [readAt_unit_at v hl f i y]
  · symm
    refine readAt_unit_at v (ho j) f _ y fun a => ?_
    fin_cases a
    · have e : o j 0 = l.val := congrFun (hoe j) 0
      show l.val = o j 0 + 0; omega
    · have e : o j 1 = 0 := congrFun (hoe j) 1
      show (i 1).val = o j 1 + (i 1).val; omega
    · have e : o j 2 = 512 * ((i 2).val / 512) := congrFun (hoe j) 2
      show (i 2).val = o j 2 + (i 2).val % 512; omega
  · intro a
    fin_cases a
    · show l.val = l.val + (i 0).val; omega
    · show (i 1).val = 0 + (i 1).val; omega
    · show (i 2).val = 0 + (i 2).val; omega

/-- An array whose panels are known reads as the panels side by side. -/
theorem read_cols {T : Nat} (hT : T = 7) (v : View sig κ sp S128x3584 e) (f : v.ty.Contents Val)
    {o : Fin T → Fin 2 → Nat} (ho : ∀ k a, o k a + S128x512.size a ≤ S128x3584.size a)
    (hoe : ∀ k, o k = ![0, 512 * k.val]) (n : Nat) (hn : n = 7) (P' : Fin T → S128x512.Idx → Val e) (P : Fin 7 → S128x512.Idx → Val e) (hP : ∀ k, P' k = P (tk hT k))
    (Q : Fin T → S128x512.Idx → Val e)
    (hf : (fun j => v.readAt Val (Rect.unit (s := S128x3584) (o j) S128x512.size (ho j)).toLoadRect f) = fun j => if j.val < n then P' j else Q j) :
    v.read Val f = paste2 P := by
  subst hT; subst hn
  funext i
  have h1 : (i 1).val < 3584 := (i 1).isLt
  let j : Fin 7 := ⟨(i 1).val / 512, by omega⟩
  have hj := congrFun hf j
  have hj' : v.readAt Val (Rect.unit (s := S128x3584) (o j) S128x512.size (ho j)).toLoadRect f = P j := by
    refine hj.trans ?_
    show (if j.val < 7 then P' j else Q j) = P j
    rw [if_pos j.isLt, hP j]
  show _ = P j (ix2 (i 0) ⟨(i 1).val % 512, _⟩)
  rw [← hj']
  symm
  refine readAt_unit_at v (ho j) f _ i fun a => ?_
  fin_cases a
  · have e : o j 0 = 0 := congrFun (hoe j) 0
    show (i 0).val = o j 0 + (i 0).val; omega
  · have e : o j 1 = 512 * ((i 1).val / 512) := congrFun (hoe j) 1
    show (i 1).val = o j 1 + (i 1).val % 512; omega

/-- One panel of an array whose panels are known. -/
theorem read_col {T : Nat} (hT : T = 7) (v : View sig κ sp S128x3584 e) (f : v.ty.Contents Val)
    {o : Fin T → Fin 2 → Nat} (ho : ∀ k a, o k a + S128x512.size a ≤ S128x3584.size a)
    (hoe : ∀ k, o k = ![0, 512 * k.val]) (n : Nat) (hn : n = 7) (P' : Fin T → S128x512.Idx → Val e) (P : Fin 7 → S128x512.Idx → Val e) (hP : ∀ k, P' k = P (tk hT k))
    (Q : Fin T → S128x512.Idx → Val e)
    (hf : (fun j => v.readAt Val (Rect.unit (s := S128x3584) (o j) S128x512.size (ho j)).toLoadRect f) = fun j => if j.val < n then P' j else Q j)
    {o' : Fin 2 → Nat} (h' : ∀ a, o' a + S128x512.size a ≤ S128x3584.size a) (k : Fin 7) (ho' : o' = ![0, 512 * k.val]) :
    v.readAt Val (Rect.unit (s := S128x3584) o' S128x512.size h').toLoadRect f = P k := by
  subst hT; subst hn
  have hj := congrFun hf k
  have hj' : v.readAt Val (Rect.unit (s := S128x3584) (o k) S128x512.size (ho k)).toLoadRect f = P k := by
    refine hj.trans ?_
    show (if k.val < 7 then P' k else Q k) = P k
    rw [if_pos k.isLt, hP k]
  have e : o' = o k := ho'.trans (hoe k).symm
  subst e
  exact hj'
end

/-- A weight panel's load reads the panel its copy brought. -/
theorem read_panel (c : Dev nD) (f1 : Buf0 F c A1) {o4 o5 o6 : Fin 3 → Nat} (h4 : ∀ a, o4 a + S1x3584x512.size a ≤ S21x3584x512.size a)
    (h5 : ∀ a, o5 a + S1x3584x512.size a ≤ S3x3584x3584.size a) (h6 : ∀ a, o6 a + S1x3584x512.size a ≤ S21x3584x512.size a) (e : o6 = o4)
    (l : Fin 3) (k : Fin 7) (ho : o5 = ![l.val, 0, 512 * k.val]) :
    X14.view.readAt (Elt F) (Rect.unit (s := S21x3584x512) o6 S1x3584x512.size h6).toLoadRect
      ((wSlot o4 h4).view.writes (Elt F) (wSlot o4 h4).view.junk [⟨Rect.whole _, ReadAs.same.apply ((wWin o5 h5).view.read (Elt F) f1)⟩])
    = wP (A1.view.read (Elt F) f1) l k := by
  subst e
  have hw : (wSlot o6 h4).view.read (Elt F) ((wSlot o6 h4).view.writes (Elt F) (wSlot o6 h4).view.junk [⟨Rect.whole _, ReadAs.same.apply ((wWin o5 h5).view.read (Elt F) f1)⟩])
      = (wWin o5 h5).view.read (Elt F) f1 := View.read_writes_whole _ _ _
  generalize (wSlot o6 h4).view.writes (Elt F) (wSlot o6 h4).view.junk [⟨Rect.whole _, ReadAs.same.apply ((wWin o5 h5).view.read (Elt F) f1)⟩] = g at hw ⊢
  have c1 : S3584x512.ShapeCasts S1x3584x512 := by decide
  have c2 : S1x3584x512.ShapeCasts S3584x512 := by decide
  have e1 : (wSlot o6 h4).view.read (Elt F) g = shapeCast S3584x512 (X14.view.readAt (Elt F) (Rect.unit (s := S21x3584x512) o6 S1x3584x512.size h6).toLoadRect g) c2 := rfl
  have e2 : (wWin o5 h5).view.read (Elt F) f1 = shapeCast S3584x512 (A1.view.readAt (Elt F) (Rect.unit (s := S3x3584x3584) o5 S1x3584x512.size h5).toLoadRect f1) c2 := rfl
  have h := (congrArg (fun z => shapeCast S1x3584x512 z c1) (e1.symm.trans (hw.trans e2)))
  rw [shapeCast_shapeCast, shapeCast_shapeCast] at h
  rw [h]
  exact read_wP A1.view f1 h5 l k ho

theorem n2_eq (c : Dev nD) (f1 : Buf0 F c A1) (f13 : Buf0 F c X13) (f15 : Buf0 F c X15) (f16 : Buf0 F c X16) (f19 : Buf0 F c X19) (s : FVec F S3x1 .f32)
    (hT : k0_t2_loop.trips = 7) (k : Fin k0_t2_loop.trips) (cd : FVec F S1x128x3584 .fp8e4m3)
    (h19 : X19.view.readAt (Elt F) (Rect.unit (s := S3x128x3584) ![0, 0, 0] S1x128x3584.size inb_S3x128x3584_S1x128x3584_0_0_0).toLoadRect f19 = cd) :
    n2 c f1 f13 f15 f16 f19 s k = k0_pay89 s cd (wP (A1.view.read (Elt F) f1) 0 (tk hT k)) (rowP (X15.view.read (Elt F) f15) 0 (tk hT k))
      (rowP (X16.view.read (Elt F) f16) 0 (tk hT k)) (colP (X13.view.read (Elt F) f13) (tk hT k)) := by
  unfold n2
  rw [h19, read_panel c f1 (k0_off4_inb k) (k0_off5_inb k) (k0_off6_inb k) ((k0_off6_eq k).trans (k0_off4_eq k).symm) 0 (tk hT k) (k0_off5_eq k),
    read_rowP X15.view f15 (k0_off7_inb k) 0 (tk hT k) (k0_off7_eq k), read_rowP X16.view f16 (k0_off7_inb k) 0 (tk hT k) (k0_off7_eq k),
    read_colP X13.view f13 (k0_off8_inb k) (tk hT k) (k0_off8_eq k)]

theorem n3_eq (c : Dev nD) (f1 : Buf0 F c A1) (f13 : Buf0 F c X13) (f15 : Buf0 F c X15) (f16 : Buf0 F c X16) (f19 : Buf0 F c X19) (f18 : Buf0 F c X18) (s : FVec F S3x1 .f32)
    (hT : k0_t3_loop.trips = 7) (k : Fin k0_t3_loop.trips) (cd : FVec F S1x128x3584 .fp8e4m3)
    (h19 : X19.view.readAt (Elt F) (Rect.unit (s := S3x128x3584) ![1, 0, 0] S1x128x3584.size inb_S3x128x3584_S1x128x3584_1_0_0).toLoadRect f19 = cd) (prev : FVec F S128x512 .f32)
    (h18 : X18.view.readAt (Elt F) (Rect.unit (s := S128x3584) (k0_off15 k) S128x512.size (k0_off15_inb k)).toLoadRect f18 = prev) :
    n3 c f1 f13 f15 f16 f19 f18 s k = k0_pay173 s cd (wP (A1.view.read (Elt F) f1) 1 (tk hT k)) (rowP (X15.view.read (Elt F) f15) 1 (tk hT k))
      (rowP (X16.view.read (Elt F) f16) 1 (tk hT k)) (colP (X13.view.read (Elt F) f13) (tk hT k)) prev := by
  unfold n3
  rw [h19, read_panel c f1 (k0_off11_inb k) (k0_off12_inb k) (k0_off13_inb k) ((k0_off13_eq k).trans (k0_off11_eq k).symm) 1 (tk hT k) (k0_off12_eq k),
    read_rowP X15.view f15 (k0_off14_inb k) 1 (tk hT k) (k0_off14_eq k), read_rowP X16.view f16 (k0_off14_inb k) 1 (tk hT k) (k0_off14_eq k),
    read_colP X13.view f13 (k0_off15_inb k) (tk hT k) (k0_off15_eq k), h18]

theorem n4_eq (c : Dev nD) (f1 : Buf0 F c A1) (f13 : Buf0 F c X13) (f15 : Buf0 F c X15) (f16 : Buf0 F c X16) (f19 : Buf0 F c X19) (f18 : Buf0 F c X18) (s : FVec F S3x1 .f32)
    (hT : k0_t4_loop.trips = 7) (k : Fin k0_t4_loop.trips) (cd : FVec F S1x128x3584 .fp8e4m3)
    (h19 : X19.view.readAt (Elt F) (Rect.unit (s := S3x128x3584) ![2, 0, 0] S1x128x3584.size inb_S3x128x3584_S1x128x3584_2_0_0).toLoadRect f19 = cd) (prev : FVec F S128x512 .f32)
    (h18 : X18.view.readAt (Elt F) (Rect.unit (s := S128x3584) (k0_off22 k) S128x512.size (k0_off22_inb k)).toLoadRect f18 = prev) :
    n4 c f1 f13 f15 f16 f19 f18 s k = k0_pay259 s cd (wP (A1.view.read (Elt F) f1) 2 (tk hT k)) (rowP (X15.view.read (Elt F) f15) 2 (tk hT k))
      (rowP (X16.view.read (Elt F) f16) 2 (tk hT k)) (colP (X13.view.read (Elt F) f13) (tk hT k)) prev := by
  unfold n4
  rw [h19, read_panel c f1 (k0_off18_inb k) (k0_off19_inb k) (k0_off20_inb k) ((k0_off20_eq k).trans (k0_off18_eq k).symm) 2 (tk hT k) (k0_off19_eq k),
    read_rowP X15.view f15 (k0_off21_inb k) 2 (tk hT k) (k0_off21_eq k), read_rowP X16.view f16 (k0_off21_inb k) 2 (tk hT k) (k0_off21_eq k),
    read_colP X13.view f13 (k0_off22_inb k) (tk hT k) (k0_off22_eq k), h18]

end Cert.KernelIdeal.Run
-- ==== Proof.Run.Values.lean ====
/- The passes' results as functions of the whole operands. -/
module

public import proofs.«01_k».proof.Proof.Run.Reads
public import Idealize.ShloMosaic.Lib.Pipeline.ReadBack

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (c : Dev nD) (x : FVec F S128x3584 .bf16) (w : FVec F S3x3584x3584 .fp8e4m3) (ws b : FVec F S3x3584 .f32) (h : FVec F S3x16 .f32)
  (f1 : Buf0 F c A1) (f13 : Buf0 F c X13) (f15 : Buf0 F c X15) (f16 : Buf0 F c X16) (s i : FVec F S3x1 .f32)
  (h1 : A1.view.read (Elt F) f1 = w) (h13 : X13.view.read (Elt F) f13 = x) (h15 : X15.view.read (Elt F) f15 = ws) (h16 : X16.view.read (Elt F) f16 = b)
  (hs : s = sV h) (hi : i = iV h)
  (fa fc fe : Buf0 F c X19) (fb fd : Buf0 F c X18) (ff : Buf0 F c X20)
  (Q1 : Fin k0_t1_loop.trips → S1x128x512.Idx → Elt F .fp8e4m3) (Q2 : Fin k0_t2_loop.trips → S128x512.Idx → Elt F .f32) (Q3 : Fin k0_t2_loop.trips → S1x128x512.Idx → Elt F .fp8e4m3)
  (Q4 : Fin k0_t3_loop.trips → S128x512.Idx → Elt F .f32) (Q5 : Fin k0_t3_loop.trips → S1x128x512.Idx → Elt F .fp8e4m3) (Q6 : Fin k0_t4_loop.trips → S128x512.Idx → Elt F .bf16)
  (hA : (fun j : Fin k0_t1_loop.trips => X19.view.readAt (Elt F) (Rect.unit (s := S3x128x3584) (k0_off2 j) S1x128x512.size (k0_off2_inb j)).toLoadRect fa) = fun j => if j.val < (Scf.trips k0_t1_loop.lb k0_t1_loop.ub k0_t1_loop.st) then k0_pay2 i (x1 c f13 j) else Q1 j)
  (hB : (fun j : Fin k0_t2_loop.trips => X18.view.readAt (Elt F) (Rect.unit (s := S128x3584) (k0_off8 j) S128x512.size (k0_off8_inb j)).toLoadRect fb) = fun j => if j.val < (Scf.trips k0_t2_loop.lb k0_t2_loop.ub k0_t2_loop.st) then n2 c f1 f13 f15 f16 fa s j else Q2 j)
  (hC : (fun j : Fin k0_t2_loop.trips => X19.view.readAt (Elt F) (Rect.unit (s := S3x128x3584) (k0_off9 j) S1x128x512.size (k0_off9_inb j)).toLoadRect fc) = fun j => if j.val < (Scf.trips k0_t2_loop.lb k0_t2_loop.ub k0_t2_loop.st) then k0_pay92 (n2 c f1 f13 f15 f16 fa s j) (k0_pay91 i) else Q3 j)
  (hD : (fun j : Fin k0_t3_loop.trips => X18.view.readAt (Elt F) (Rect.unit (s := S128x3584) (k0_off15 j) S128x512.size (k0_off15_inb j)).toLoadRect fd) = fun j => if j.val < (Scf.trips k0_t3_loop.lb k0_t3_loop.ub k0_t3_loop.st) then n3 c f1 f13 f15 f16 fc fb s j else Q4 j)
  (hE : (fun j : Fin k0_t3_loop.trips => X19.view.readAt (Elt F) (Rect.unit (s := S3x128x3584) (k0_off16 j) S1x128x512.size (k0_off16_inb j)).toLoadRect fe) = fun j => if j.val < (Scf.trips k0_t3_loop.lb k0_t3_loop.ub k0_t3_loop.st) then k0_pay175 i (n3 c f1 f13 f15 f16 fc fb s j) else Q5 j)
  (hF : (fun j : Fin k0_t4_loop.trips => X20.view.readAt (Elt F) (Rect.unit (s := S128x3584) (k0_off22 j) S128x512.size (k0_off22_inb j)).toLoadRect ff) = fun j => if j.val < (Scf.trips k0_t4_loop.lb k0_t4_loop.ub k0_t4_loop.st) then n4 c f1 f13 f15 f16 fe fd s j else Q6 j)

include h13 in
/-- The input's maxima. -/
theorem vM0 : amaxUpTo k0_pay268 (fun j => k0_pay1 (x1 c f13 j)) (Scf.trips k0_t1_loop.lb k0_t1_loop.ub k0_t1_loop.st) = M0 x :=
  amaxUpTo_eq (show k0_t1_loop.trips = 7 by decide) _ _ (fun k => k0_pay1 (colP x k)) (fun k => by
    show k0_pay1 (x1 c f13 k) = _
    rw [x1, read_colP X13.view f13 (k0_off1_inb k) (tk (show k0_t1_loop.trips = 7 by decide) k) (k0_off1_eq k), h13]) _ (show (Scf.trips k0_t1_loop.lb k0_t1_loop.ub k0_t1_loop.st) = 7 by decide)

include h13 hi hA in
/-- The first slab holds the first layer's codes. -/
theorem vC0 : X19.view.readAt (Elt F) (Rect.unit (s := S3x128x3584) ![0, 0, 0] S1x128x3584.size inb_S3x128x3584_S1x128x3584_0_0_0).toLoadRect fa = codes0 x h :=
  read_slab (show k0_t1_loop.trips = 7 by decide) X19.view fa 0 rfl _ k0_off2_inb k0_off2_eq _ (show (Scf.trips k0_t1_loop.lb k0_t1_loop.ub k0_t1_loop.st) = 7 by decide) (fun j => k0_pay2 i (x1 c f13 j)) (fun k => k0_pay2 (iV h) (colP x k)) (fun k => by
    show k0_pay2 i (x1 c f13 k) = _
    rw [x1, read_colP X13.view f13 (k0_off1_inb k) (tk (show k0_t1_loop.trips = 7 by decide) k) (k0_off1_eq k), h13, hi]) Q1 hA

include h1 h13 h15 h16 hs hi hA in
theorem vN2 (k : Fin k0_t2_loop.trips) : n2 c f1 f13 f15 f16 fa s k = N2 x w ws b h (tk (show k0_t2_loop.trips = 7 by decide) k) := by
  rw [n2_eq c f1 f13 f15 f16 fa s (show k0_t2_loop.trips = 7 by decide) k (codes0 x h) (vC0 c x h f13 i h13 hi fa Q1 hA), h1, h13, h15, h16, hs]
  rfl

include h1 h13 h15 h16 hs hi hA in
theorem vM1 : amaxUpTo k0_pay274 (fun j => n2 c f1 f13 f15 f16 fa s j) (Scf.trips k0_t2_loop.lb k0_t2_loop.ub k0_t2_loop.st) = M1 x w ws b h :=
  amaxUpTo_eq (show k0_t2_loop.trips = 7 by decide) _ _ (N2 x w ws b h) (fun k => vN2 c x w ws b h f1 f13 f15 f16 s i h1 h13 h15 h16 hs hi fa Q1 hA k) _ (show (Scf.trips k0_t2_loop.lb k0_t2_loop.ub k0_t2_loop.st) = 7 by decide)

include h1 h13 h15 h16 hs hi hA hC in
/-- The second slab holds the second layer's codes. -/
theorem vC1 : X19.view.readAt (Elt F) (Rect.unit (s := S3x128x3584) ![1, 0, 0] S1x128x3584.size inb_S3x128x3584_S1x128x3584_1_0_0).toLoadRect fc = codes1 x w ws b h :=
  read_slab (show k0_t2_loop.trips = 7 by decide) X19.view fc 1 rfl _ k0_off9_inb k0_off9_eq _ (show (Scf.trips k0_t2_loop.lb k0_t2_loop.ub k0_t2_loop.st) = 7 by decide) (fun j => k0_pay92 (n2 c f1 f13 f15 f16 fa s j) (k0_pay91 i)) (fun k => k0_pay92 (N2 x w ws b h k) (k0_pay91 (iV h))) (fun k => by
    show k0_pay92 (n2 c f1 f13 f15 f16 fa s k) (k0_pay91 i) = _
    rw [vN2 c x w ws b h f1 f13 f15 f16 s i h1 h13 h15 h16 hs hi fa Q1 hA k, hi]) Q3 hC

include h1 h13 h15 h16 hs hi hA hB hC in
theorem vN3 (k : Fin k0_t3_loop.trips) : n3 c f1 f13 f15 f16 fc fb s k = N3 x w ws b h (tk (show k0_t3_loop.trips = 7 by decide) k) := by
  rw [n3_eq c f1 f13 f15 f16 fc fb s (show k0_t3_loop.trips = 7 by decide) k (codes1 x w ws b h) (vC1 c x w ws b h f1 f13 f15 f16 s i h1 h13 h15 h16 hs hi fa fc Q1 Q3 hA hC) (N2 x w ws b h (tk (show k0_t3_loop.trips = 7 by decide) k))
    (read_col (show k0_t2_loop.trips = 7 by decide) X18.view fb k0_off8_inb k0_off8_eq _ (show (Scf.trips k0_t2_loop.lb k0_t2_loop.ub k0_t2_loop.st) = 7 by decide) (fun j => n2 c f1 f13 f15 f16 fa s j) (N2 x w ws b h) (fun k => vN2 c x w ws b h f1 f13 f15 f16 s i h1 h13 h15 h16 hs hi fa Q1 hA k) Q2 hB (k0_off15_inb k) (tk (show k0_t3_loop.trips = 7 by decide) k) (k0_off15_eq k)),
    h1, h13, h15, h16, hs]
  rfl

include h1 h13 h15 h16 hs hi hA hB hC in
theorem vM2 : amaxUpTo k0_pay278 (fun j => n3 c f1 f13 f15 f16 fc fb s j) (Scf.trips k0_t3_loop.lb k0_t3_loop.ub k0_t3_loop.st) = M2 x w ws b h :=
  amaxUpTo_eq (show k0_t3_loop.trips = 7 by decide) _ _ (N3 x w ws b h) (fun k => vN3 c x w ws b h f1 f13 f15 f16 s i h1 h13 h15 h16 hs hi fa fc fb Q1 Q2 Q3 hA hB hC k) _ (show (Scf.trips k0_t3_loop.lb k0_t3_loop.ub k0_t3_loop.st) = 7 by decide)

include h1 h13 h15 h16 hs hi hA hB hC hE in
/-- The third slab holds the last layer's codes. -/
theorem vC2 : X19.view.readAt (Elt F) (Rect.unit (s := S3x128x3584) ![2, 0, 0] S1x128x3584.size inb_S3x128x3584_S1x128x3584_2_0_0).toLoadRect fe = codes2 x w ws b h :=
  read_slab (show k0_t3_loop.trips = 7 by decide) X19.view fe 2 rfl _ k0_off16_inb k0_off16_eq _ (show (Scf.trips k0_t3_loop.lb k0_t3_loop.ub k0_t3_loop.st) = 7 by decide) (fun j => k0_pay175 i (n3 c f1 f13 f15 f16 fc fb s j)) (fun k => k0_pay175 (iV h) (N3 x w ws b h k)) (fun k => by
    show k0_pay175 i (n3 c f1 f13 f15 f16 fc fb s k) = _
    rw [vN3 c x w ws b h f1 f13 f15 f16 s i h1 h13 h15 h16 hs hi fa fc fb Q1 Q2 Q3 hA hB hC k, hi]) Q5 hE

include h1 h13 h15 h16 hs hi hA hB hC hD hE in
theorem vN4 (k : Fin k0_t4_loop.trips) : n4 c f1 f13 f15 f16 fe fd s k = N4 x w ws b h (tk (show k0_t4_loop.trips = 7 by decide) k) := by
  rw [n4_eq c f1 f13 f15 f16 fe fd s (show k0_t4_loop.trips = 7 by decide) k (codes2 x w ws b h) (vC2 c x w ws b h f1 f13 f15 f16 s i h1 h13 h15 h16 hs hi fa fc fe fb Q1 Q2 Q3 Q5 hA hB hC hE) (N3 x w ws b h (tk (show k0_t4_loop.trips = 7 by decide) k))
    (read_col (show k0_t3_loop.trips = 7 by decide) X18.view fd k0_off15_inb k0_off15_eq _ (show (Scf.trips k0_t3_loop.lb k0_t3_loop.ub k0_t3_loop.st) = 7 by decide) (fun j => n3 c f1 f13 f15 f16 fc fb s j) (N3 x w ws b h) (fun k => vN3 c x w ws b h f1 f13 f15 f16 s i h1 h13 h15 h16 hs hi fa fc fb Q1 Q2 Q3 hA hB hC k) Q4 hD (k0_off22_inb k) (tk (show k0_t4_loop.trips = 7 by decide) k) (k0_off22_eq k)),
    h1, h13, h15, h16, hs]
  rfl

include h1 h13 h15 h16 hs hi hA hB hC hD hE hF in
/-- The output scratch holds the last layer's result. -/
theorem vR0 : X20.view.read (Elt F) ff = R0 x w ws b h :=
  read_cols (show k0_t4_loop.trips = 7 by decide) X20.view ff k0_off22_inb k0_off22_eq _ (show (Scf.trips k0_t4_loop.lb k0_t4_loop.ub k0_t4_loop.st) = 7 by decide) (fun j => n4 c f1 f13 f15 f16 fe fd s j) (N4 x w ws b h)
    (fun k => vN4 c x w ws b h f1 f13 f15 f16 s i h1 h13 h15 h16 hs hi fa fc fe fb fd Q1 Q2 Q3 Q4 Q5 hA hB hC hD hE k) Q6 hF
end

/-- The three rows of running maxima read back. -/
theorem read_max0 (a b c : FVec F S1x8x128 .f32) : X23.view.readCov (Val := Elt F)
    [⟨Rect.unit (s := S3x8x128) ![2, 0, 0] S1x8x128.size inb_S3x8x128_S1x8x128_2_0_0, a⟩, ⟨Rect.unit (s := S3x8x128) ![1, 0, 0] S1x8x128.size inb_S3x8x128_S1x8x128_1_0_0, b⟩,
      ⟨Rect.unit (s := S3x8x128) ![0, 0, 0] S1x8x128.size inb_S3x8x128_S1x8x128_0_0_0, c⟩] (Rect.unit (s := S3x8x128) ![0, 0, 0] S1x8x128.size inb_S3x8x128_S1x8x128_0_0_0).toLoadRect = c := by
  rw [View.readCov_skip _ _ _ _ _ (by decide), View.readCov_skip _ _ _ _ _ (by decide), View.readCov_cons_toLoadRect]
theorem read_max1 (a b c : FVec F S1x8x128 .f32) : X23.view.readCov (Val := Elt F)
    [⟨Rect.unit (s := S3x8x128) ![2, 0, 0] S1x8x128.size inb_S3x8x128_S1x8x128_2_0_0, a⟩, ⟨Rect.unit (s := S3x8x128) ![1, 0, 0] S1x8x128.size inb_S3x8x128_S1x8x128_1_0_0, b⟩,
      ⟨Rect.unit (s := S3x8x128) ![0, 0, 0] S1x8x128.size inb_S3x8x128_S1x8x128_0_0_0, c⟩] (Rect.unit (s := S3x8x128) ![1, 0, 0] S1x8x128.size inb_S3x8x128_S1x8x128_1_0_0).toLoadRect = b := by
  rw [View.readCov_skip _ _ _ _ _ (by decide), View.readCov_cons_toLoadRect]
theorem read_max2 (a b c : FVec F S1x8x128 .f32) : X23.view.readCov (Val := Elt F)
    [⟨Rect.unit (s := S3x8x128) ![2, 0, 0] S1x8x128.size inb_S3x8x128_S1x8x128_2_0_0, a⟩, ⟨Rect.unit (s := S3x8x128) ![1, 0, 0] S1x8x128.size inb_S3x8x128_S1x8x128_1_0_0, b⟩,
      ⟨Rect.unit (s := S3x8x128) ![0, 0, 0] S1x8x128.size inb_S3x8x128_S1x8x128_0_0_0, c⟩] (Rect.unit (s := S3x8x128) ![2, 0, 0] S1x8x128.size inb_S3x8x128_S1x8x128_2_0_0).toLoadRect = a := by
  rw [View.readCov_cons_toLoadRect]

/-- A buffer written whole reads as what was written. -/
theorem read_copied {κ : Kind} {sp : Space} {s : Shape} {e : EltTy} (v : View sig κ sp s e) (f : v.ty.Contents (Elt F)) (p : s.Idx → Elt F e) :
    v.read (Elt F) (View.write (Elt F) v f p Finset.univ) = p :=
  funext fun y => View.read_write_of_mem f p (Finset.mem_univ y)

end Cert.KernelIdeal.Run
-- ==== Proof.Run.Body.lean ====
/- The kernel's body: what it holds before and after, and its results. -/
module

public import proofs.«01_k».proof.Proof.Run.Freed
public import proofs.«01_k».proof.Proof.Run.Values

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Cell 0 of the scale scratch. -/
abbrev sRow0 : Memref sig .tc .vmem S1x1 .f32 := ((X21.slice (Rect.unit (s := S3x1x1) ![0, 0, 0] S1x1x1.size inb_S3x1x1_S1x1x1_0_0_0) (fun _ => rfl)).squeeze S1x1 squeezes_S1x1x1_S1x1)
/-- Cell 1 of the scale scratch. -/
abbrev sRow1 : Memref sig .tc .vmem S1x1 .f32 := ((X21.slice (Rect.unit (s := S3x1x1) ![1, 0, 0] S1x1x1.size inb_S3x1x1_S1x1x1_1_0_0) (fun _ => rfl)).squeeze S1x1 squeezes_S1x1x1_S1x1)
/-- Cell 2 of the scale scratch. -/
abbrev sRow2 : Memref sig .tc .vmem S1x1 .f32 := ((X21.slice (Rect.unit (s := S3x1x1) ![2, 0, 0] S1x1x1.size inb_S3x1x1_S1x1x1_2_0_0) (fun _ => rfl)).squeeze S1x1 squeezes_S1x1x1_S1x1)

/-- A memref's buffer held whole, reading `R`. -/
abbrev outAt (c : Dev nD) {sp : Space} {S : Shape} {e : EltTy} (M : Memref sig .tc sp S e) (R : S.Idx → Elt F e) : sProp 𝕄 :=
  iprop(∃ f : Buf0 F c M, pt c M f ∗ ⌜M.view.read (Elt F) f = R⌝)
/-- A memref's buffer held whole, at whatever it is. -/
abbrev someAt (c : Dev nD) {sp : Space} {S : Shape} {e : EltTy} (M : Memref sig .tc sp S e) : sProp 𝕄 := iprop(∃ f : Buf0 F c M, pt c M f)
/-- The elements under a memref, at whatever they are. -/
abbrev someS (c : Dev nD) {sp : Space} {S : Shape} {e : EltTy} (M : Memref sig .tc sp S e) : sProp 𝕄 := iprop(∃ f : Buf0 F c M, ptS c M f)
/-- The scratch and the cells besides the panels'. -/
abbrev scratchAt (c : Dev nD) : sProp 𝕄 := iprop(someAt c X13 ∗ someAt c X15 ∗ someAt c X16 ∗ someAt c X17 ∗ someAt c X18 ∗ someAt c X20 ∗ someAt c X22 ∗ someAt c X23
  ∗ someS c cSlab0 ∗ someS c cSlab1 ∗ someS c cSlab2 ∗ someS c sRow0 ∗ someS c sRow1 ∗ someS c sRow2
  ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0)
/-- The operands but the weights. -/
abbrev opsAt (c : Dev nD) (f0 : Buf0 F c A0) (f2 : Buf0 F c A2) (f3 : Buf0 F c A3) (f4 : Buf0 F c A4) : sProp 𝕄 := iprop(pt c A0 f0 ∗ pt c A2 f2 ∗ pt c A3 f3 ∗ pt c A4 f4)
/-- The results' buffers, at whatever they are. -/
abbrev outsAny (c : Dev nD) : sProp 𝕄 := iprop(someAt c O0 ∗ someAt c O1 ∗ someAt c O2 ∗ someAt c O3 ∗ someAt c O4 ∗ someAt c O5 ∗ someAt c O6 ∗ someAt c O7)
/-- The results' buffers, holding the results. -/
abbrev outsDone (c : Dev nD) (f1 : Buf0 F c A1) (f0 : Buf0 F c A0) (f2 : Buf0 F c A2) (f3 : Buf0 F c A3) (f4 : Buf0 F c A4) : sProp 𝕄 := iprop(outAt c O0 (R0 (A0.view.read (Elt F) f0) (A1.view.read (Elt F) f1) (A2.view.read (Elt F) f2) (A3.view.read (Elt F) f3) (A4.view.read (Elt F) f4))
  ∗ outAt c O1 (R1 (A0.view.read (Elt F) f0) (A4.view.read (Elt F) f4))
  ∗ outAt c O2 (R2 (A4.view.read (Elt F) f4))
  ∗ outAt c O3 (R3 (A0.view.read (Elt F) f0) (A1.view.read (Elt F) f1) (A2.view.read (Elt F) f2) (A3.view.read (Elt F) f3) (A4.view.read (Elt F) f4))
  ∗ outAt c O4 (R4 (A4.view.read (Elt F) f4))
  ∗ outAt c O5 (R5 (A0.view.read (Elt F) f0) (A1.view.read (Elt F) f1) (A2.view.read (Elt F) f2) (A3.view.read (Elt F) f3) (A4.view.read (Elt F) f4))
  ∗ outAt c O6 (R6 (A4.view.read (Elt F) f4))
  ∗ outAt c O7 (newHist (A0.view.read (Elt F) f0) (A1.view.read (Elt F) f1) (A2.view.read (Elt F) f2) (A3.view.read (Elt F) f3) (A4.view.read (Elt F) f4)))

theorem read_hist (c : Dev nD) (f4 : Buf0 F c A4) (g17 : Buf0 F c X17) :
    X17.view.readAt (Elt F) (Rect.unit (s := S3x16) ![0, 0] S3x16.size inb_S3x16_S3x16_0_0).toLoadRect
      (View.write (Elt F) X17.view g17 (ReadAs.same.apply (A4.view.read (Elt F) f4)) Finset.univ) = A4.view.read (Elt F) f4 := by
  funext i
  rw [readAt_unit_at X17.view inb_S3x16_S3x16_0_0 _ i i fun a => by fin_cases a <;> exact (Nat.zero_add _).symm]
  exact congrFun (read_copied X17.view g17 _) i

/-- The scale cell's copy carries what was stored in the cell. -/
theorem read_cell {c : Dev nD} (g : Buf0 F c X21) {o : Fin 3 → Nat} (ho : ∀ a, o a + S1x1x1.size a ≤ S3x1x1.size a) (p : S1x1x1.Idx → Elt F .f32) :
    ((X21.slice (Rect.unit (s := S3x1x1) o S1x1x1.size ho) (fun _ => rfl)).squeeze S1x1 squeezes_S1x1x1_S1x1).view.read (Elt F)
      (View.write (Elt F) (X21.access (Rect.unit (s := S3x1x1) o S1x1x1.size ho)) g p Finset.univ) = shapeCast S1x1 p (by decide) :=
  congrArg (fun z => shapeCast S1x1 z (show S1x1x1.ShapeCasts S1x1 by decide)) (read_copied (X21.access (Rect.unit (s := S3x1x1) o S1x1x1.size ho)) g p)

set_option maxRecDepth 65536 in
set_option maxHeartbeats 1600000 in
set_option sl_exec.lendShare "G0,G1,G2" in
/-- The body: the operands are left as they are, the eight results hold what the kernel computes. -/
theorem body (c : Dev nD) (f1 : Buf0 F c A1) (f0 : Buf0 F c A0) (f2 : Buf0 F c A2) (f3 : Buf0 F c A3) (f4 : Buf0 F c A4) (W : Waits sig Unit) :
  iprop((free2 c f1 ∗ free3 c f1 ∗ free4 c f1) ∗ opsAt c f0 f2 f3 f4 ∗ outsAny c ∗ scratchAt c ∗ owes (c : Thread nD τ) 0 W)
  ⊢ wp frame (wpE defs₀ Variants.none (c : Thread nD τ) none) Set.univ (cc0_dcn_cross (F := F) A0 (Memref.isWhole_whole _) A1 (Memref.isWhole_whole _) A2 (Memref.isWhole_whole _) A3 (Memref.isWhole_whole _) A4 (Memref.isWhole_whole _) O0 (Memref.isWhole_whole _) O1 (Memref.isWhole_whole _) O2 (Memref.isWhole_whole _) O3 (Memref.isWhole_whole _) O4 (Memref.isWhole_whole _) O5 (Memref.isWhole_whole _) O6 (Memref.isWhole_whole _) O7 (Memref.isWhole_whole _) X13 (Memref.isWhole_whole _) X14 (Memref.isWhole_whole _) X15 (Memref.isWhole_whole _) X16 (Memref.isWhole_whole _) X17 (Memref.isWhole_whole _) X18 (Memref.isWhole_whole _) X19 (Memref.isWhole_whole _) X20 (Memref.isWhole_whole _) X21 (Memref.isWhole_whole _) X22 (Memref.isWhole_whole _) X23 (Memref.isWhole_whole _) cc0_scratch11 cc0_scratch12 cc0_scratch13)
    (fun _ => iprop((free2 c f1 ∗ free3 c f1 ∗ free4 c f1) ∗ opsAt c f0 f2 f3 f4 ∗ outsDone c f1 f0 f2 f3 f4 ∗ scratchAt c ∗ ∃ W, owes (c : Thread nD τ) 0 W)) := by
  simp only [cc0_dcn_cross_eq_skeleton]
  unfold cc0_dcn_cross_skel
  simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  unfold k0_part13_skel k0_part14_skel k0_part15_skel k0_part16_skel k0_part17_skel k0_part18_skel
  iintro ⟨⟨⟨⟨C0, ⟨%w0, S0⟩, P0⟩, ⟨C1, ⟨%w1, S1⟩, P1⟩, ⟨C2, ⟨%w2, S2⟩, P2⟩, ⟨C3, ⟨%w3, S3⟩, P3⟩, ⟨C4, ⟨%w4, S4⟩, P4⟩, ⟨C5, ⟨%w5, S5⟩, P5⟩, ⟨C6, ⟨%w6, S6⟩, P6⟩⟩, ⟨⟨C7, ⟨%w7, S7⟩, P7⟩, ⟨C8, ⟨%w8, S8⟩, P8⟩, ⟨C9, ⟨%w9, S9⟩, P9⟩, ⟨C10, ⟨%w10, S10⟩, P10⟩, ⟨C11, ⟨%w11, S11⟩, P11⟩, ⟨C12, ⟨%w12, S12⟩, P12⟩, ⟨C13, ⟨%w13, S13⟩, P13⟩⟩, ⟨⟨C14, ⟨%w14, S14⟩, P14⟩, ⟨C15, ⟨%w15, S15⟩, P15⟩, ⟨C16, ⟨%w16, S16⟩, P16⟩, ⟨C17, ⟨%w17, S17⟩, P17⟩, ⟨C18, ⟨%w18, S18⟩, P18⟩, ⟨C19, ⟨%w19, S19⟩, P19⟩, ⟨C20, ⟨%w20, S20⟩, P20⟩⟩⟩, ⟨HA0, HA2, HA3, HA4⟩, ⟨⟨%o0, HO0⟩, ⟨%o1, HO1⟩, ⟨%o2, HO2⟩, ⟨%o3, HO3⟩, ⟨%o4, HO4⟩, ⟨%o5, HO5⟩, ⟨%o6, HO6⟩, ⟨%o7, HO7⟩⟩, ⟨⟨%g13, H13⟩, ⟨%g15, H15⟩, ⟨%g16, H16⟩, ⟨%g17, H17⟩, ⟨%g18, H18⟩, ⟨%g20, H20⟩, ⟨%g22, H22⟩, ⟨%g23, H23⟩, ⟨%g190, G0⟩, ⟨%g191, G1⟩, ⟨%g192, G2⟩, ⟨%g210, R0⟩, ⟨%g211, R1⟩, ⟨%g212, R2⟩, I0, I1, I2, I3, T0, T1, T2, T3, T4, T5, T6, T7⟩, HO⟩
  sl_exec
  ihave Fam2 : Ring.AtW (wFam c f1 k0_off3 k0_off3_inb k0_off4 k0_off4_inb k0_off5 k0_off5_inb) (stK 0) $$ [C0 C1 C2 C3 C4 C5 C6]
  · rw [flight2]
    isplitl [C0]; · iexists _; iexact C0
    isplitl [C1]; · iexists _; iexact C1
    isplitl [C2]; · iexists _; iexact C2
    isplitl [C3]; · iexists _; iexact C3
    isplitl [C4]; · iexists _; iexact C4
    isplitl [C5]; · iexists _; iexact C5
    iexists _; iexact C6
  ihave Fam3 : Ring.AtW (wFam c f1 k0_off10 k0_off10_inb k0_off11 k0_off11_inb k0_off12 k0_off12_inb) (stK 0) $$ [C7 C8 C9 C10 C11 C12 C13]
  · rw [flight3]
    isplitl [C7]; · iexists _; iexact C7
    isplitl [C8]; · iexists _; iexact C8
    isplitl [C9]; · iexists _; iexact C9
    isplitl [C10]; · iexists _; iexact C10
    isplitl [C11]; · iexists _; iexact C11
    isplitl [C12]; · iexists _; iexact C12
    iexists _; iexact C13
  ihave Fam4 : Ring.AtW (wFam c f1 k0_off17 k0_off17_inb k0_off18 k0_off18_inb k0_off19 k0_off19_inb) (stK 0) $$ [C14 C15 C16 C17 C18 C19 C20]
  · rw [flight4]
    isplitl [C14]; · iexists _; iexact C14
    isplitl [C15]; · iexists _; iexact C15
    isplitl [C16]; · iexists _; iexact C16
    isplitl [C17]; · iexists _; iexact C17
    isplitl [C18]; · iexists _; iexact C18
    isplitl [C19]; · iexists _; iexact C19
    iexists _; iexact C20
  sl_exec
  sl_step
  have hA := ‹(fun j : Fin k0_t1_loop.trips => X19.view.readAt (Elt F) (Rect.unit (s := S3x128x3584) (k0_off2 j) S1x128x512.size (k0_off2_inb j)).toLoadRect _) = _›
  have hB := ‹(fun j : Fin k0_t2_loop.trips => X18.view.readAt (Elt F) (Rect.unit (s := S128x3584) (k0_off8 j) S128x512.size (k0_off8_inb j)).toLoadRect _) = fun (j : Fin k0_t2_loop.trips) => if j.val < (Scf.trips k0_t2_loop.lb k0_t2_loop.ub k0_t2_loop.st) then n2 c f1 _ _ _ _ _ j else _›
  have hC := ‹(fun j : Fin k0_t2_loop.trips => X19.view.readAt (Elt F) (Rect.unit (s := S3x128x3584) (k0_off9 j) S1x128x512.size (k0_off9_inb j)).toLoadRect _) = _›
  have hD := ‹(fun j : Fin k0_t3_loop.trips => X18.view.readAt (Elt F) (Rect.unit (s := S128x3584) (k0_off15 j) S128x512.size (k0_off15_inb j)).toLoadRect _) = fun (j : Fin k0_t3_loop.trips) => if j.val < (Scf.trips k0_t3_loop.lb k0_t3_loop.ub k0_t3_loop.st) then n3 c f1 _ _ _ _ _ _ j else _›
  have hE := ‹(fun j : Fin k0_t3_loop.trips => X19.view.readAt (Elt F) (Rect.unit (s := S3x128x3584) (k0_off16 j) S1x128x512.size (k0_off16_inb j)).toLoadRect _) = _›
  have hF := ‹(fun j : Fin k0_t4_loop.trips => X20.view.readAt (Elt F) (Rect.unit (s := S128x3584) (k0_off22 j) S128x512.size (k0_off22_inb j)).toLoadRect _) = _›
  have h13 : X13.view.read (Elt F) (View.write (Elt F) X13.view g13 (body.sl.dma0_1 c f0) Finset.univ) = A0.view.read (Elt F) f0 := read_copied _ _ _
  have h15 : X15.view.read (Elt F) (View.write (Elt F) X15.view g15 (body.sl.dma0_2 c f2) Finset.univ) = A2.view.read (Elt F) f2 := read_copied _ _ _
  have h16 : X16.view.read (Elt F) (View.write (Elt F) X16.view g16 (body.sl.dma0_3 c f3) Finset.univ) = A3.view.read (Elt F) f3 := read_copied _ _ _
  have hh := read_hist c f4 g17
  have hs : body.sl.r c f4 g17 = sV (A4.view.read (Elt F) f4) := congrArg (fun z => k0_pay263 (k0_pay260 z) k0_pay261) hh
  have hi : body.sl.r_1 c f4 g17 = iV (A4.view.read (Elt F) f4) := congrArg (fun z => k0_pay264 (k0_pay260 z) k0_pay261) hh
  have m0 := vM0 c (A0.view.read (Elt F) f0) _ h13
  have m1 := vM1 c (A0.view.read (Elt F) f0) (A1.view.read (Elt F) f1) (A2.view.read (Elt F) f2) (A3.view.read (Elt F) f3) (A4.view.read (Elt F) f4) _ _ _ _ _ _ rfl h13 h15 h16 hs hi _ _ hA
  have m2 := vM2 c (A0.view.read (Elt F) f0) (A1.view.read (Elt F) f1) (A2.view.read (Elt F) f2) (A3.view.read (Elt F) f3) (A4.view.read (Elt F) f4) _ _ _ _ _ _ rfl h13 h15 h16 hs hi _ _ _ _ _ _ hA hB hC
  have c0 := vC0 c (A0.view.read (Elt F) f0) (A4.view.read (Elt F) f4) _ _ h13 hi _ _ hA
  have c1 := vC1 c (A0.view.read (Elt F) f0) (A1.view.read (Elt F) f1) (A2.view.read (Elt F) f2) (A3.view.read (Elt F) f3) (A4.view.read (Elt F) f4) _ _ _ _ _ _ rfl h13 h15 h16 hs hi _ _ _ _ hA hC
  have c2 := vC2 c (A0.view.read (Elt F) f0) (A1.view.read (Elt F) f1) (A2.view.read (Elt F) f2) (A3.view.read (Elt F) f3) (A4.view.read (Elt F) f4) _ _ _ _ _ _ rfl h13 h15 h16 hs hi _ _ _ _ _ _ _ _ hA hB hC hE
  have r0 := vR0 c (A0.view.read (Elt F) f0) (A1.view.read (Elt F) f1) (A2.view.read (Elt F) f2) (A3.view.read (Elt F) f3) (A4.view.read (Elt F) f4) _ _ _ _ _ _ rfl h13 h15 h16 hs hi _ _ _ _ _ _ _ _ _ _ _ _ hA hB hC hD hE hF
  isplitl [Fam2 Fam3 Fam4]
  · isplitl [Fam2]; · iapply (freed2 c f1); iexact Fam2
    isplitl [Fam3]; · iapply (freed3 c f1); iexact Fam3
    iapply (freed4 c f1); iexact Fam4
  isplitl [HA0 HA2 HA3 HA4]
  · isplitl [HA0]; · iexact HA0
    isplitl [HA2]; · iexact HA2
    isplitl [HA3]; · iexact HA3
    iexact HA4
  isplitl [HO0 HO1 HO2 HO3 HO4 HO5 HO6 HO7]
  · isplitl [HO0]
    · iexists _; isplitl [HO0]; · iexact HO0
      ipureintro
      exact (read_copied _ _ _).trans r0
    isplitl [HO1]
    · iexists _; isplitl [HO1]; · iexact HO1
      ipureintro
      exact (read_copied _ _ _).trans (congrArg (fun z => shapeCast S128x3584 z shapeCasts_S1x128x3584_S128x3584) c0)
    isplitl [HO2]
    · iexists _; isplitl [HO2]; · iexact HO2
      ipureintro
      exact (read_copied _ _ _).trans ((read_cell _ _ _).trans (congrArg (fun z => shapeCast S1x1 (k0_pay265 (k0_pay260 z) k0_pay261) (by decide)) hh))
    isplitl [HO3]
    · iexists _; isplitl [HO3]; · iexact HO3
      ipureintro
      exact (read_copied _ _ _).trans (congrArg (fun z => shapeCast S128x3584 z shapeCasts_S1x128x3584_S128x3584) c1)
    isplitl [HO4]
    · iexists _; isplitl [HO4]; · iexact HO4
      ipureintro
      exact (read_copied _ _ _).trans ((read_cell _ _ _).trans (congrArg (fun z => shapeCast S1x1 (k0_pay266 (k0_pay260 z) k0_pay261) (by decide)) hh))
    isplitl [HO5]
    · iexists _; isplitl [HO5]; · iexact HO5
      ipureintro
      exact (read_copied _ _ _).trans (congrArg (fun z => shapeCast S128x3584 z shapeCasts_S1x128x3584_S128x3584) c2)
    isplitl [HO6]
    · iexists _; isplitl [HO6]; · iexact HO6
      ipureintro
      exact (read_copied _ _ _).trans ((read_cell _ _ _).trans (congrArg (fun z => shapeCast S1x1 (k0_pay267 (k0_pay260 z) k0_pay261) (by decide)) hh))
    iexists _; isplitl [HO7]; · iexact HO7
    ipureintro
    refine (read_copied _ _ _).trans ?_
    clear * - m0 m1 m2 hh
    unfold body.sl.dma6 body.sl.H22_1
    refine (View.read_writes_full X22.view g22 inb_S3x16_S3x16_0_0 _ []).trans ?_
    unfold body.sl.r_3 body.sl.v258 body.sl.v270 body.sl.v282 body.sl.H23_3 body.sl.r_2
    rw [read_max0, read_max1, read_max2, m0, m1, m2]
    exact congrArg (fun z => k0_pay287 (iota Kind.tc S3x16 32 [1] iota_S3x16_d1_w32) (iota Kind.tc S3x16 32 [0] iota_S3x16_d0_w32) k0_pay284 k0_pay285 _ _ _ z) hh
  isplitr [HO]
  · isplitl [H13]; · iexists _; iexact H13
    isplitl [H15]; · iexists _; iexact H15
    isplitl [H16]; · iexists _; iexact H16
    isplitl [H17]; · iexists _; iexact H17
    isplitl [H18]; · iexists _; iexact H18
    isplitl [H20]; · iexists _; iexact H20
    isplitl [H22]; · iexists _; iexact H22
    isplitl [H23]; · iexists _; iexact H23
    isplitl [G0]; · iexists _; iexact G0
    isplitl [G1]; · iexists _; iexact G1
    isplitl [G2]; · iexists _; iexact G2
    isplitl [R0]; · iexists _; iexact R0
    isplitl [R1]; · iexists _; iexact R1
    isplitl [R2]; · iexists _; iexact R2
    isplitl [I0]; · iexact I0
    isplitl [I1]; · iexact I1
    isplitl [I2]; · iexact I2
    isplitl [I3]; · iexact I3
    isplitl [T0]; · iexact T0
    isplitl [T1]; · iexact T1
    isplitl [T2]; · iexact T2
    isplitl [T3]; · iexact T3
    isplitl [T4]; · iexact T4
    isplitl [T5]; · iexact T5
    isplitl [T6]; · iexact T6
    iexact T7
  iexists _; iexact HO

end Cert.KernelIdeal.Run
-- ==== Proof.Run.Split.lean ====
/- What the launch starts from, split into what each part of the kernel takes. -/
module

public import proofs.«01_k».proof.Proof.Run.Body
public import Idealize.ShloMosaic.Lib.Ring

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Panel `i`'s cell, slot and weight panel, by number. -/
abbrev cOff (i : Fin 21) : Fin 1 → Nat := ![i.val]
theorem cInb (i : Fin 21) : ∀ a, cOff i a + S1.size a ≤ S21.size a := by revert i; decide
abbrev sOff (i : Fin 21) : Fin 3 → Nat := ![i.val, 0, 0]
theorem sInb (i : Fin 21) : ∀ a, sOff i a + S1x3584x512.size a ≤ S21x3584x512.size a := by revert i; decide
abbrev wOff (i : Fin 21) : Fin 3 → Nat := ![i.val / 7, 0, 512 * (i.val % 7)]
theorem wInb (i : Fin 21) : ∀ a, wOff i a + S1x3584x512.size a ≤ S3x3584x3584.size a := by revert i; decide

theorem wWin_set (i : Fin 21) : (wWin (wOff i) (wInb i)).view.set = (Rect.unit (s := S3x3584x3584) (wOff i) S1x3584x512.size (wInb i)).set := by
  rw [Memref.set_view_squeeze]; exact View.set_slice_whole _ _
theorem wSlot_set (i : Fin 21) : (wSlot (sOff i) (sInb i)).view.set = (Rect.unit (s := S21x3584x512) (sOff i) S1x3584x512.size (sInb i)).set := by
  rw [Memref.set_view_squeeze]; exact View.set_slice_whole _ _

abbrev slotsSet (i : Fin 21) : Finset S21x3584x512.Idx := (wSlot (sOff i) (sInb i)).view.set
abbrev winsSet (i : Fin 21) : Finset S3x3584x3584.Idx := (wWin (wOff i) (wInb i)).view.set
/-- The panel slots are apart; -/
theorem slots_disjoint (i j : Fin 21) (h : i ≠ j) : Disjoint (wSlot (sOff i) (sInb i)).view.set (wSlot (sOff j) (sInb j)).view.set := by
  rw [wSlot_set, wSlot_set]
  exact Ring.lead_disjoint (s := S21x3584x512) (0 : Fin 3) 1 sOff S1x3584x512.size sInb (fun j => by simp [sOff]) rfl i j h
/-- and they are the whole scratch. -/
theorem slots_cover : Finset.univ.biUnion slotsSet = Finset.univ := by
  rw [show slotsSet = _ from funext wSlot_set]
  exact Ring.lead_cover (s := S21x3584x512) (0 : Fin 3) 1 sOff S1x3584x512.size sInb (fun j => by simp [sOff])
    (fun b a ha => by fin_cases a <;> first | exact absurd rfl ha | rfl) rfl (fun a ha => by fin_cases a <;> first | exact absurd rfl ha | rfl) rfl

/-- The weights' panels are apart; -/
theorem wins_disjoint (i j : Fin 21) (h : i ≠ j) : Disjoint (wWin (wOff i) (wInb i)).view.set (wWin (wOff j) (wInb j)).view.set := by
  rw [wWin_set, wWin_set, Finset.disjoint_left]
  intro x hx hy
  have a0 := Rect.mem_set_unit.mp hx (0 : Fin 3)
  have a2 := Rect.mem_set_unit.mp hx (2 : Fin 3)
  have b0 := Rect.mem_set_unit.mp hy (0 : Fin 3)
  have b2 := Rect.mem_set_unit.mp hy (2 : Fin 3)
  have e0 : ∀ k : Fin 21, wOff k (0 : Fin 3) = k.val / 7 := fun k => rfl
  have e2 : ∀ k : Fin 21, wOff k (2 : Fin 3) = 512 * (k.val % 7) := fun k => rfl
  have s0 : S1x3584x512.size (0 : Fin 3) = 1 := rfl
  have s2 : S1x3584x512.size (2 : Fin 3) = 512 := rfl
  rw [e0, s0] at a0 b0
  rw [e2, s2] at a2 b2
  apply h
  apply Fin.ext
  omega
/-- and they are all the weights. -/
theorem wins_cover : Finset.univ.biUnion winsSet = Finset.univ := by
  rw [show winsSet = _ from funext wWin_set]
  ext x
  simp only [Finset.mem_biUnion, Finset.mem_univ, true_and, iff_true]
  have h0 : (x (0 : Fin 3)).val < 3 := (x (0 : Fin 3)).isLt
  have h1 : (x (1 : Fin 3)).val < 3584 := (x (1 : Fin 3)).isLt
  have h2 : (x (2 : Fin 3)).val < 3584 := (x (2 : Fin 3)).isLt
  refine ⟨⟨7 * (x (0 : Fin 3)).val + (x (2 : Fin 3)).val / 512, by omega⟩, Rect.mem_set_unit.mpr fun a => ?_⟩
  fin_cases a
  · show (7 * (x (0 : Fin 3)).val + (x (2 : Fin 3)).val / 512) / 7 ≤ (x (0 : Fin 3)).val ∧ (x (0 : Fin 3)).val < (7 * (x (0 : Fin 3)).val + (x (2 : Fin 3)).val / 512) / 7 + 1
    omega
  · show 0 ≤ (x (1 : Fin 3)).val ∧ (x (1 : Fin 3)).val < 0 + 3584
    omega
  · show 512 * ((7 * (x (0 : Fin 3)).val + (x (2 : Fin 3)).val / 512) % 7) ≤ (x (2 : Fin 3)).val ∧ (x (2 : Fin 3)).val < 512 * ((7 * (x (0 : Fin 3)).val + (x (2 : Fin 3)).val / 512) % 7) + 512
    omega

/-- The twenty-one panels' parts, by number. -/
abbrev freeF (c : Dev nD) (f1 : Buf0 F c A1) (i : Fin 21) : sProp 𝕄 := freeAt c f1 (cOff i) (cInb i) (sOff i) (sInb i) (wOff i) (wInb i)

/-- The cells, the slots' scratch and the weights whole are the panels' parts; -/
theorem free_split (c : Dev nD) (f1 : Buf0 F c A1) :
    iprop((bigSep Finset.univ fun i : Fin 21 => semVal ((c : Thread nD τ), wCell (cOff i) (cInb i)) 0) ∗ someAt c X14 ∗ pt c A1 f1) ⊢ (bigSep Finset.univ (freeF c f1) : sProp 𝕄) := by
  have e1 : (pt c A1 f1 : sProp 𝕄) = bigSep Finset.univ fun i => ptS c (wWin (wOff i) (wInb i)) f1 :=
    Ring.pointsTo_blocks (ℓ := A1.view.loc (c : Thread nD τ)) winsSet wins_disjoint wins_cover f1
  have e2 : (someAt c X14 : sProp 𝕄) ⊢ bigSep Finset.univ (fun i : Fin 21 => (iprop(∃ f : Buf0 F c (wSlot (sOff i) (sInb i)), ptS c (wSlot (sOff i) (sInb i)) f) : sProp 𝕄)) := by
    iintro ⟨%f, H⟩
    have e : (pt c X14 f : sProp 𝕄) = bigSep Finset.univ fun i => ptS c (wSlot (sOff i) (sInb i)) f :=
      Ring.pointsTo_blocks (ℓ := X14.view.loc (c : Thread nD τ)) slotsSet slots_disjoint slots_cover f
    iapply (Entails.of_eq e |>.trans (bigSep_mono fun i _ => show (ptS c (wSlot (sOff i) (sInb i)) f : sProp 𝕄) ⊢ iprop(∃ f, ptS c (wSlot (sOff i) (sInb i)) f) by
      iintro H; iexists f; iexact H))
    iexact H
  unfold freeF
  rw [e1, BI.bigSep_sep', BI.bigSep_sep']
  iintro ⟨H1, H2, H3⟩
  isplitl [H1]; · iexact H1
  isplitl [H2]
  · iapply e2; iexact H2
  iexact H3
/-- and back. -/
theorem free_join (c : Dev nD) (f1 : Buf0 F c A1) (g : Buf0 F c X14) :
    (bigSep Finset.univ (freeF c f1) : sProp 𝕄) ⊢ iprop((bigSep Finset.univ fun i : Fin 21 => semVal ((c : Thread nD τ), wCell (cOff i) (cInb i)) 0) ∗ someAt c X14 ∗ pt c A1 f1) := by
  have e1 : (pt c A1 f1 : sProp 𝕄) = bigSep Finset.univ fun i => ptS c (wWin (wOff i) (wInb i)) f1 :=
    Ring.pointsTo_blocks (ℓ := A1.view.loc (c : Thread nD τ)) winsSet wins_disjoint wins_cover f1
  have e2 : (bigSep Finset.univ (fun i : Fin 21 => (iprop(∃ f : Buf0 F c (wSlot (sOff i) (sInb i)), ptS c (wSlot (sOff i) (sInb i)) f) : sProp 𝕄)) : sProp 𝕄) ⊢ someAt c X14 :=
    Ring.pointsTo_blocks_join_exists (ℓ := X14.view.loc (c : Thread nD τ)) slotsSet slots_disjoint slots_cover g
  unfold freeF
  rw [e1, BI.bigSep_sep', BI.bigSep_sep']
  iintro ⟨H1, H2, H3⟩
  isplitl [H1]; · iexact H1
  isplitl [H2]
  · iapply e2; iexact H2
  iexact H3

/-- A family over the twenty-one panels, one by one. -/
theorem chain21 (P : Fin 21 → sProp 𝕄) : (bigSep Finset.univ P : sProp 𝕄) = iprop(P 0 ∗ P 1 ∗ P 2 ∗ P 3 ∗ P 4 ∗ P 5 ∗ P 6 ∗ P 7 ∗ P 8 ∗ P 9 ∗ P 10 ∗ P 11 ∗ P 12 ∗ P 13 ∗ P 14 ∗ P 15 ∗ P 16 ∗ P 17 ∗ P 18 ∗ P 19 ∗ P 20) := by
  rw [BI.bigSep_univ_eq_bigSepL [0, 1, 2, 3, 4, 5, 6, 7, 8, 9, 10, 11, 12, 13, 14, 15, 16, 17, 18, 19, 20] (by decide) (by decide)]; rfl
/-- The panels' parts are the three passes' parts; -/
theorem free_group (c : Dev nD) (f1 : Buf0 F c A1) : (bigSep Finset.univ (freeF c f1) : sProp 𝕄) ⊢ iprop(free2 c f1 ∗ free3 c f1 ∗ free4 c f1) := by
  rw [chain21]
  iintro ⟨H0, H1, H2, H3, H4, H5, H6, H7, H8, H9, H10, H11, H12, H13, H14, H15, H16, H17, H18, H19, H20⟩
  isplitl [H0 H1 H2 H3 H4 H5 H6]
  · unfold free2
    isplitl [H0]; · iexact H0
    isplitl [H1]; · iexact H1
    isplitl [H2]; · iexact H2
    isplitl [H3]; · iexact H3
    isplitl [H4]; · iexact H4
    isplitl [H5]; · iexact H5
    iexact H6
  isplitl [H7 H8 H9 H10 H11 H12 H13]
  · unfold free3
    isplitl [H7]; · iexact H7
    isplitl [H8]; · iexact H8
    isplitl [H9]; · iexact H9
    isplitl [H10]; · iexact H10
    isplitl [H11]; · iexact H11
    isplitl [H12]; · iexact H12
    iexact H13
  unfold free4
  isplitl [H14]; · iexact H14
  isplitl [H15]; · iexact H15
  isplitl [H16]; · iexact H16
  isplitl [H17]; · iexact H17
  isplitl [H18]; · iexact H18
  isplitl [H19]; · iexact H19
  iexact H20
/-- and back. -/
theorem free_ungroup (c : Dev nD) (f1 : Buf0 F c A1) : iprop(free2 c f1 ∗ free3 c f1 ∗ free4 c f1) ⊢ (bigSep Finset.univ (freeF c f1) : sProp 𝕄) := by
  rw [chain21]
  unfold free2 free3 free4
  iintro ⟨⟨H0, H1, H2, H3, H4, H5, H6⟩, ⟨H7, H8, H9, H10, H11, H12, H13⟩, ⟨H14, H15, H16, H17, H18, H19, H20⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The code slabs, by number. -/
abbrev slabsOff (i : Fin 3) : Fin 3 → Nat := ![i.val, 0, 0]
theorem slabsInb (i : Fin 3) : ∀ a, slabsOff i a + S1x128x3584.size a ≤ S3x128x3584.size a := by revert i; decide
abbrev slabsF (i : Fin 3) : Memref sig .tc .vmem S128x3584 .fp8e4m3 :=
  ((X19.slice (Rect.unit (s := S3x128x3584) (slabsOff i) S1x128x3584.size (slabsInb i)) (fun _ => rfl)).squeeze S128x3584 squeezes_S1x128x3584_S128x3584)
theorem slabs_set (i : Fin 3) : (slabsF i).view.set = (Rect.unit (s := S3x128x3584) (slabsOff i) S1x128x3584.size (slabsInb i)).set := by
  rw [Memref.set_view_squeeze]; exact View.set_slice_whole _ _
abbrev slabsSet (i : Fin 3) : Finset S3x128x3584.Idx := (slabsF i).view.set
theorem slabs_disjoint (i j : Fin 3) (h : i ≠ j) : Disjoint (slabsF i).view.set (slabsF j).view.set := by
  rw [slabs_set, slabs_set]
  exact Ring.lead_disjoint (s := S3x128x3584) (0 : Fin 3) 1 slabsOff S1x128x3584.size slabsInb (fun j => by simp [slabsOff]) rfl i j h
theorem slabs_cover : Finset.univ.biUnion slabsSet = Finset.univ := by
  rw [show slabsSet = _ from funext slabs_set]
  exact Ring.lead_cover (s := S3x128x3584) (0 : Fin 3) 1 slabsOff S1x128x3584.size slabsInb (fun j => by simp [slabsOff])
    (fun b a ha => by fin_cases a <;> first | exact absurd rfl ha | rfl) rfl (fun a ha => by fin_cases a <;> first | exact absurd rfl ha | rfl) rfl
/-- The code slabs' scratch whole is the three parts; -/
theorem slabs_split (c : Dev nD) : (someAt c X19 : sProp 𝕄) ⊢ iprop(someS c cSlab0 ∗ someS c cSlab1 ∗ someS c cSlab2) := by
  have e : ∀ f, (pt c X19 f : sProp 𝕄) = iprop(ptS c cSlab0 f ∗ ptS c cSlab1 f ∗ ptS c cSlab2 f) := fun f => by
    rw [show (pt c X19 f : sProp 𝕄) = bigSep Finset.univ fun i => ptS c (slabsF i) f from Ring.pointsTo_blocks (ℓ := X19.view.loc (c : Thread nD τ)) slabsSet slabs_disjoint slabs_cover f,
      BI.bigSep_univ_eq_bigSepL [0, 1, 2] (by decide) (by decide)]; rfl
  simp only [someAt, e]
  iintro ⟨%f, H0, H1, H2⟩
  isplitl [H0]; · iexists f; iexact H0
  isplitl [H1]; · iexists f; iexact H1
  iexists f; iexact H2
/-- and back. -/
theorem slabs_join (c : Dev nD) : iprop(someS c cSlab0 ∗ someS c cSlab1 ∗ someS c cSlab2) ⊢ (someAt c X19 : sProp 𝕄) := by
  have e : ∀ g : Buf0 F c X19, (bigSep Finset.univ (fun i : Fin 3 => (iprop(∃ f : Buf0 F c (slabsF i), ptS c (slabsF i) f) : sProp 𝕄)) : sProp 𝕄) ⊢ someAt c X19 := fun g =>
    Ring.pointsTo_blocks_join_exists (ℓ := X19.view.loc (c : Thread nD τ)) slabsSet slabs_disjoint slabs_cover g
  have e3 : (bigSep Finset.univ (fun i : Fin 3 => (iprop(∃ f : Buf0 F c (slabsF i), ptS c (slabsF i) f) : sProp 𝕄)) : sProp 𝕄) = iprop(someS c cSlab0 ∗ someS c cSlab1 ∗ someS c cSlab2) := by
    rw [BI.bigSep_univ_eq_bigSepL [0, 1, 2] (by decide) (by decide)]; rfl
  iintro ⟨⟨%f, H0⟩, H1, H2⟩
  iapply ((Entails.of_eq e3.symm).trans (e f))
  isplitl [H0]; · iexists f; iexact H0
  isplitl [H1]; · iexact H1
  iexact H2

/-- The scale cells, by number. -/
abbrev rowsOff (i : Fin 3) : Fin 3 → Nat := ![i.val, 0, 0]
theorem rowsInb (i : Fin 3) : ∀ a, rowsOff i a + S1x1x1.size a ≤ S3x1x1.size a := by revert i; decide
abbrev rowsF (i : Fin 3) : Memref sig .tc .vmem S1x1 .f32 :=
  ((X21.slice (Rect.unit (s := S3x1x1) (rowsOff i) S1x1x1.size (rowsInb i)) (fun _ => rfl)).squeeze S1x1 squeezes_S1x1x1_S1x1)
theorem rows_set (i : Fin 3) : (rowsF i).view.set = (Rect.unit (s := S3x1x1) (rowsOff i) S1x1x1.size (rowsInb i)).set := by
  rw [Memref.set_view_squeeze]; exact View.set_slice_whole _ _
abbrev rowsSet (i : Fin 3) : Finset S3x1x1.Idx := (rowsF i).view.set
theorem rows_disjoint (i j : Fin 3) (h : i ≠ j) : Disjoint (rowsF i).view.set (rowsF j).view.set := by
  rw [rows_set, rows_set]
  exact Ring.lead_disjoint (s := S3x1x1) (0 : Fin 3) 1 rowsOff S1x1x1.size rowsInb (fun j => by simp [rowsOff]) rfl i j h
theorem rows_cover : Finset.univ.biUnion rowsSet = Finset.univ := by
  rw [show rowsSet = _ from funext rows_set]
  exact Ring.lead_cover (s := S3x1x1) (0 : Fin 3) 1 rowsOff S1x1x1.size rowsInb (fun j => by simp [rowsOff])
    (fun b a ha => by fin_cases a <;> first | exact absurd rfl ha | rfl) rfl (fun a ha => by fin_cases a <;> first | exact absurd rfl ha | rfl) rfl
/-- The scale cells' scratch whole is the three parts; -/
theorem rows_split (c : Dev nD) : (someAt c X21 : sProp 𝕄) ⊢ iprop(someS c sRow0 ∗ someS c sRow1 ∗ someS c sRow2) := by
  have e : ∀ f, (pt c X21 f : sProp 𝕄) = iprop(ptS c sRow0 f ∗ ptS c sRow1 f ∗ ptS c sRow2 f) := fun f => by
    rw [show (pt c X21 f : sProp 𝕄) = bigSep Finset.univ fun i => ptS c (rowsF i) f from Ring.pointsTo_blocks (ℓ := X21.view.loc (c : Thread nD τ)) rowsSet rows_disjoint rows_cover f,
      BI.bigSep_univ_eq_bigSepL [0, 1, 2] (by decide) (by decide)]; rfl
  simp only [someAt, e]
  iintro ⟨%f, H0, H1, H2⟩
  isplitl [H0]; · iexists f; iexact H0
  isplitl [H1]; · iexists f; iexact H1
  iexists f; iexact H2
/-- and back. -/
theorem rows_join (c : Dev nD) : iprop(someS c sRow0 ∗ someS c sRow1 ∗ someS c sRow2) ⊢ (someAt c X21 : sProp 𝕄) := by
  have e : ∀ g : Buf0 F c X21, (bigSep Finset.univ (fun i : Fin 3 => (iprop(∃ f : Buf0 F c (rowsF i), ptS c (rowsF i) f) : sProp 𝕄)) : sProp 𝕄) ⊢ someAt c X21 := fun g =>
    Ring.pointsTo_blocks_join_exists (ℓ := X21.view.loc (c : Thread nD τ)) rowsSet rows_disjoint rows_cover g
  have e3 : (bigSep Finset.univ (fun i : Fin 3 => (iprop(∃ f : Buf0 F c (rowsF i), ptS c (rowsF i) f) : sProp 𝕄)) : sProp 𝕄) = iprop(someS c sRow0 ∗ someS c sRow1 ∗ someS c sRow2) := by
    rw [BI.bigSep_univ_eq_bigSepL [0, 1, 2] (by decide) (by decide)]; rfl
  iintro ⟨⟨%f, H0⟩, H1, H2⟩
  iapply ((Entails.of_eq e3.symm).trans (e f))
  isplitl [H0]; · iexists f; iexact H0
  isplitl [H1]; · iexact H1
  iexact H2

end Cert.KernelIdeal.Run
-- ==== Proof.Run.Launch.lean ====
/- The kernel's one call, run from its starting memory. -/
module

public import proofs.«01_k».proof.Proof.Run.Split
public import proofs.«01_k».proof.Proof.Gen.KernelIdeal.Frame
public import Idealize.ShloMosaic.Lib.Pipeline.FrameSuffixV

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The cells the kernel's copies complete on: the panels' twenty-one and the twelve others. -/
abbrev osem0 : Fin 33 → SemLoc sig := fun j => SemLoc.dma j
theorem ownSemFacts0 : Pipeline.OwnSemFacts cfg0.spec osem0 := by decide
/-- The buffers the kernel reads: the reshaped input and the other four arguments. -/
def H0 : Finset (Ref sig .tc) := {main_v0, main_arg1, main_arg2, main_arg3, main_arg4}
theorem H0_sub : H0 ⊆ Pipeline.restRefs sig cfg0.spec := by decide
/-- The buffers it writes. -/
def W0 : Finset (Ref sig .tc) := {main_v1_0, main_v1_1, main_v1_2, main_v1_3, main_v1_4, main_v1_5, main_v1_6, main_v1_7}
theorem W0_sub : W0 ⊆ Pipeline.restRefs sig cfg0.spec \ H0 := by decide

/-- What the kernel's operands read as when it starts. -/
abbrev inX (c : Dev nD) : S128x3584.Idx → Elt F .bf16 := A0.view.read (Elt F) (V m c main_v0)
abbrev inW (c : Dev nD) : S3x3584x3584.Idx → Elt F .fp8e4m3 := A1.view.read (Elt F) (V m c main_arg1)
abbrev inS (c : Dev nD) : S3x3584.Idx → Elt F .f32 := A2.view.read (Elt F) (V m c main_arg2)
abbrev inB (c : Dev nD) : S3x3584.Idx → Elt F .f32 := A3.view.read (Elt F) (V m c main_arg3)
abbrev inH (c : Dev nD) : S3x16.Idx → Elt F .f32 := A4.view.read (Elt F) (V m c main_arg4)

/-- The buffers when the kernel is done: its results written, all else as it was. -/
def G (c : Dev nD) : (b : Ref sig .tc) → Buf (Elt F) ((c.tc : Thread nD τ).loc b) :=
  (Function.update (Function.update (Function.update (Function.update (Function.update (Function.update (Function.update (Function.update (V m c) main_v1_0 ((Memref.isWhole_whole main_v1_0 : O0.IsWhole).unread (Val := Elt F) (R0 (inX m c) (inW m c) (inS m c) (inB m c) (inH m c)))) main_v1_1 ((Memref.isWhole_whole main_v1_1 : O1.IsWhole).unread (Val := Elt F) (R1 (inX m c) (inH m c)))) main_v1_2 ((Memref.isWhole_whole main_v1_2 : O2.IsWhole).unread (Val := Elt F) (R2 (inH m c)))) main_v1_3 ((Memref.isWhole_whole main_v1_3 : O3.IsWhole).unread (Val := Elt F) (R3 (inX m c) (inW m c) (inS m c) (inB m c) (inH m c)))) main_v1_4 ((Memref.isWhole_whole main_v1_4 : O4.IsWhole).unread (Val := Elt F) (R4 (inH m c)))) main_v1_5 ((Memref.isWhole_whole main_v1_5 : O5.IsWhole).unread (Val := Elt F) (R5 (inX m c) (inW m c) (inS m c) (inB m c) (inH m c)))) main_v1_6 ((Memref.isWhole_whole main_v1_6 : O6.IsWhole).unread (Val := Elt F) (R6 (inH m c)))) main_v1_7 ((Memref.isWhole_whole main_v1_7 : O7.IsWhole).unread (Val := Elt F) (newHist (inX m c) (inW m c) (inS m c) (inB m c) (inH m c))))
theorem G_0 (c : Dev nD) : G m c main_v1_0 = (Memref.isWhole_whole main_v1_0 : O0.IsWhole).unread (Val := Elt F) (R0 (inX m c) (inW m c) (inS m c) (inB m c) (inH m c)) := by
  unfold G; rw [Function.update_of_ne (by decide)]; rw [Function.update_of_ne (by decide)]; rw [Function.update_of_ne (by decide)]; rw [Function.update_of_ne (by decide)]; rw [Function.update_of_ne (by decide)]; rw [Function.update_of_ne (by decide)]; rw [Function.update_of_ne (by decide)]; exact Function.update_self ..
theorem G_1 (c : Dev nD) : G m c main_v1_1 = (Memref.isWhole_whole main_v1_1 : O1.IsWhole).unread (Val := Elt F) (R1 (inX m c) (inH m c)) := by
  unfold G; rw [Function.update_of_ne (by decide)]; rw [Function.update_of_ne (by decide)]; rw [Function.update_of_ne (by decide)]; rw [Function.update_of_ne (by decide)]; rw [Function.update_of_ne (by decide)]; rw [Function.update_of_ne (by decide)]; exact Function.update_self ..
theorem G_2 (c : Dev nD) : G m c main_v1_2 = (Memref.isWhole_whole main_v1_2 : O2.IsWhole).unread (Val := Elt F) (R2 (inH m c)) := by
  unfold G; rw [Function.update_of_ne (by decide)]; rw [Function.update_of_ne (by decide)]; rw [Function.update_of_ne (by decide)]; rw [Function.update_of_ne (by decide)]; rw [Function.update_of_ne (by decide)]; exact Function.update_self ..
theorem G_3 (c : Dev nD) : G m c main_v1_3 = (Memref.isWhole_whole main_v1_3 : O3.IsWhole).unread (Val := Elt F) (R3 (inX m c) (inW m c) (inS m c) (inB m c) (inH m c)) := by
  unfold G; rw [Function.update_of_ne (by decide)]; rw [Function.update_of_ne (by decide)]; rw [Function.update_of_ne (by decide)]; rw [Function.update_of_ne (by decide)]; exact Function.update_self ..
theorem G_4 (c : Dev nD) : G m c main_v1_4 = (Memref.isWhole_whole main_v1_4 : O4.IsWhole).unread (Val := Elt F) (R4 (inH m c)) := by
  unfold G; rw [Function.update_of_ne (by decide)]; rw [Function.update_of_ne (by decide)]; rw [Function.update_of_ne (by decide)]; exact Function.update_self ..
theorem G_5 (c : Dev nD) : G m c main_v1_5 = (Memref.isWhole_whole main_v1_5 : O5.IsWhole).unread (Val := Elt F) (R5 (inX m c) (inW m c) (inS m c) (inB m c) (inH m c)) := by
  unfold G; rw [Function.update_of_ne (by decide)]; rw [Function.update_of_ne (by decide)]; exact Function.update_self ..
theorem G_6 (c : Dev nD) : G m c main_v1_6 = (Memref.isWhole_whole main_v1_6 : O6.IsWhole).unread (Val := Elt F) (R6 (inH m c)) := by
  unfold G; rw [Function.update_of_ne (by decide)]; exact Function.update_self ..
theorem G_7 (c : Dev nD) : G m c main_v1_7 = (Memref.isWhole_whole main_v1_7 : O7.IsWhole).unread (Val := Elt F) (newHist (inX m c) (inW m c) (inS m c) (inB m c) (inH m c)) := by
  unfold G;  exact Function.update_self ..

theorem sems33 (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32] (by decide) (by decide)]; rfl
/-- The twelve cells besides the panels'. -/
abbrev sems12 (c : Dev nD) : sProp 𝕄 := iprop(semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0)
/-- The kernel's cells are the panels' and the twelve others; -/
theorem sems_split (c : Dev nD) :
    (Pipeline.ownSems0 (Ix := Unit) (Name := ℕ) (U := Pipeline.UD sig nD τ) (Lvl := ℕ) (Val := Elt F) (τ := τ) osem0 c : sProp 𝕄)
      ⊢ iprop((bigSep Finset.univ fun i : Fin 21 => semVal ((c : Thread nD τ), wCell (cOff i) (cInb i)) 0) ∗ sems12 c) := by
  rw [sems33, chain21]
  unfold sems12
  iintro ⟨H0, H1, H2, H3, H4, H5, H6, H7, H8, H9, H10, H11, H12, H13, H14, H15, H16, H17, H18, H19, H20, H21, H22, H23, H24, H25, H26, H27, H28, H29, H30, H31, H32⟩
  isplitl [H0 H1 H2 H3 H4 H5 H6 H7 H8 H9 H10 H11 H12 H13 H14 H15 H16 H17 H18 H19 H20]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  iexact H32
/-- and back. -/
theorem sems_join (c : Dev nD) :
    iprop((bigSep Finset.univ fun i : Fin 21 => semVal ((c : Thread nD τ), wCell (cOff i) (cInb i)) 0) ∗ sems12 c)
      ⊢ (Pipeline.ownSems0 (Ix := Unit) (Name := ℕ) (U := Pipeline.UD sig nD τ) (Lvl := ℕ) (Val := Elt F) (τ := τ) osem0 c : sProp 𝕄) := by
  rw [sems33, chain21]
  unfold sems12
  iintro ⟨⟨H0, H1, H2, H3, H4, H5, H6, H7, H8, H9, H10, H11, H12, H13, H14, H15, H16, H17, H18, H19, H20⟩, H21, H22, H23, H24, H25, H26, H27, H28, H29, H30, H31, H32⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  iexact H32

theorem opPts_eq (c : Dev nD) :
    (bigSep H0 (fun b => ((c.tc : Thread nD τ).loc b) ↦{fullShare} V m c b) : sProp 𝕄)
      = iprop(pt c A0 (V m c main_v0) ∗ pt c A1 (V m c main_arg1) ∗ pt c A2 (V m c main_arg2) ∗ pt c A3 (V m c main_arg3) ∗ pt c A4 (V m c main_arg4)) := by
  rw [BI.bigSep_eq_bigSepL_of_eq [main_v0, main_arg1, main_arg2, main_arg3, main_arg4] (by decide) (by decide)]; rfl
theorem resPts_eq (c : Dev nD) (K : (b : Ref sig .tc) → Buf (Elt F) ((c.tc : Thread nD τ).loc b)) :
    (bigSep W0 (fun b => ((c.tc : Thread nD τ).loc b) ↦{fullShare} K b) : sProp 𝕄)
      = iprop(pt c O0 (K main_v1_0) ∗ pt c O1 (K main_v1_1) ∗ pt c O2 (K main_v1_2) ∗ pt c O3 (K main_v1_3) ∗ pt c O4 (K main_v1_4) ∗ pt c O5 (K main_v1_5) ∗ pt c O6 (K main_v1_6) ∗ pt c O7 (K main_v1_7)) := by
  rw [BI.bigSep_eq_bigSepL_of_eq [main_v1_0, main_v1_1, main_v1_2, main_v1_3, main_v1_4, main_v1_5, main_v1_6, main_v1_7] (by decide) (by decide)]; rfl
theorem scratchPts_eq (c : Dev nD) :
    (Pipeline.scopedRest (Ix := Unit) (Name := ℕ) (U := Pipeline.UD sig nD τ) (Lvl := ℕ) (Val := Elt F) cfg0.spec c : sProp 𝕄)
      = iprop(someAt c X13 ∗ someAt c X14 ∗ someAt c X15 ∗ someAt c X16 ∗ someAt c X17 ∗ someAt c X18 ∗ someAt c X19 ∗ someAt c X20 ∗ someAt c X21 ∗ someAt c X22 ∗ someAt c X23) :=
  scopedRest0_eq c

/-- What the kernel holds before and after: its scratch at anything, its cells at zero, its operands, its results'
    buffers at `K`. -/
abbrev around (c : Dev nD) (K : (b : Ref sig .tc) → Buf (Elt F) ((c.tc : Thread nD τ).loc b)) : sProp 𝕄 :=
  Pipeline.ΦDRV osem0 cfg0.spec H0 W0 (V m) (fun _ => K) c

theorem around_eq (c : Dev nD) (K : (b : Ref sig .tc) → Buf (Elt F) ((c.tc : Thread nD τ).loc b)) :
    around m c K = iprop((someAt c X13 ∗ someAt c X14 ∗ someAt c X15 ∗ someAt c X16 ∗ someAt c X17 ∗ someAt c X18 ∗ someAt c X19 ∗ someAt c X20 ∗ someAt c X21 ∗ someAt c X22 ∗ someAt c X23)
      ∗ Pipeline.ownSems0 (Ix := Unit) (Name := ℕ) (U := Pipeline.UD sig nD τ) (Lvl := ℕ) (Val := Elt F) (τ := τ) osem0 c
      ∗ (pt c A0 (V m c main_v0) ∗ pt c A1 (V m c main_arg1) ∗ pt c A2 (V m c main_arg2) ∗ pt c A3 (V m c main_arg3) ∗ pt c A4 (V m c main_arg4))
      ∗ (pt c O0 (K main_v1_0) ∗ pt c O1 (K main_v1_1) ∗ pt c O2 (K main_v1_2) ∗ pt c O3 (K main_v1_3) ∗ pt c O4 (K main_v1_4) ∗ pt c O5 (K main_v1_5) ∗ pt c O6 (K main_v1_6) ∗ pt c O7 (K main_v1_7))) := by
  unfold around Pipeline.ΦDRV
  rw [← scratchPts_eq, ← opPts_eq, ← resPts_eq]

/-- A buffer reading `R` is the buffer at the contents that read `R`. -/
theorem outAt_unread (c : Dev nD) {sp : Space} {S : Shape} {e : EltTy} (M : Memref sig .tc sp S e) (h : M.IsWhole) (R : S.Idx → Elt F e) (f : Buf0 F c M)
    (hf : M.view.read (Elt F) f = R) : f = h.unread R := h.eq_unread hf

/-- The proof data: before the kernel's one step its buffers are as the program left them, after it the results are written. -/
def dats (_ : Fin 1) (c : Dev nD) : Dat τ (Elt F) Unit ℕ (Pipeline.UD sig nD τ) ℕ cfg0 c where
  A w := V m c (Pipeline.arrRef cfg0.spec w)
  after w t := w.elim0
  Φ i := if i.val = 0 then around m c (V m c) else around m c (G m c)
  q _ := fullShare
  owed _ := 0

theorem A_eq (c : Dev nD) (w : Fin cfg0.W) : (dats m 0 c).A w = V m c (Pipeline.arrRef cfg0.spec w) := w.elim0

/-- What the kernel's body leaves is the buffers with the results written. -/
theorem after_body (c : Dev nD) (g : Buf0 F c X14) :
    iprop((free2 c (V m c main_arg1) ∗ free3 c (V m c main_arg1) ∗ free4 c (V m c main_arg1)) ∗ opsAt c (V m c main_v0) (V m c main_arg2) (V m c main_arg3) (V m c main_arg4)
        ∗ outsDone c (V m c main_arg1) (V m c main_v0) (V m c main_arg2) (V m c main_arg3) (V m c main_arg4) ∗ scratchAt c ∗ ∃ W, owes (c : Thread nD τ) 0 W)
      ⊢ iprop(around m c (G m c) ∗ ∃ W, owes (c : Thread nD τ) 0 W) := by
  rw [around_eq, G_0, G_1, G_2, G_3, G_4, G_5, G_6, G_7]
  iintro ⟨Hf, ⟨P0, P2, P3, P4⟩, ⟨⟨%o0, Q0, %h0⟩, ⟨%o1, Q1, %h1⟩, ⟨%o2, Q2, %h2⟩, ⟨%o3, Q3, %h3⟩, ⟨%o4, Q4, %h4⟩, ⟨%o5, Q5, %h5⟩, ⟨%o6, Q6, %h6⟩, ⟨%o7, Q7, %h7⟩⟩, ⟨S13, S15, S16, S17, S18, S20, S22, S23, C0, C1, C2, T0, T1, T2, I0, I1, I2, I3, I4, I5, I6, I7, I8, I9, I10, I11⟩, HW⟩
  have hf := (free_ungroup c (V m c main_arg1)).trans (free_join c (V m c main_arg1) g)
  have e0 := outAt_unread c O0 (Memref.isWhole_whole main_v1_0) _ o0 h0
  have e1 := outAt_unread c O1 (Memref.isWhole_whole main_v1_1) _ o1 h1
  have e2 := outAt_unread c O2 (Memref.isWhole_whole main_v1_2) _ o2 h2
  have e3 := outAt_unread c O3 (Memref.isWhole_whole main_v1_3) _ o3 h3
  have e4 := outAt_unread c O4 (Memref.isWhole_whole main_v1_4) _ o4 h4
  have e5 := outAt_unread c O5 (Memref.isWhole_whole main_v1_5) _ o5 h5
  have e6 := outAt_unread c O6 (Memref.isWhole_whole main_v1_6) _ o6 h6
  have e7 := outAt_unread c O7 (Memref.isWhole_whole main_v1_7) _ o7 h7
  ihave Hf2 := hf $$ Hf
  icases Hf2 with ⟨Hc, S14, P1⟩
  isplitr [HW]
  · isplitl [S13 S14 S15 S16 S17 S18 S20 S22 S23 C0 C1 C2 T0 T1 T2]
    · isplitl [S13]; · iexact S13
      isplitl [S14]; · iexact S14
      isplitl [S15]; · iexact S15
      isplitl [S16]; · iexact S16
      isplitl [S17]; · iexact S17
      isplitl [S18]; · iexact S18
      isplitl [C0 C1 C2]
      · iapply (slabs_join c); isplitl [C0]; · iexact C0
        isplitl [C1]; · iexact C1
        iexact C2
      isplitl [S20]; · iexact S20
      isplitl [T0 T1 T2]
      · iapply (rows_join c); isplitl [T0]; · iexact T0
        isplitl [T1]; · iexact T1
        iexact T2
      isplitl [S22]; · iexact S22
      iexact S23
    isplitl [Hc I0 I1 I2 I3 I4 I5 I6 I7 I8 I9 I10 I11]
    · iapply (sems_join c)
      isplitl [Hc]; · iexact Hc
      unfold sems12
      isplitl [I0]; · iexact I0
      isplitl [I1]; · iexact I1
      isplitl [I2]; · iexact I2
      isplitl [I3]; · iexact I3
      isplitl [I4]; · iexact I4
      isplitl [I5]; · iexact I5
      isplitl [I6]; · iexact I6
      isplitl [I7]; · iexact I7
      isplitl [I8]; · iexact I8
      isplitl [I9]; · iexact I9
      isplitl [I10]; · iexact I10
      iexact I11
    isplitl [P0 P1 P2 P3 P4]
    · isplitl [P0]; · iexact P0
      isplitl [P1]; · iexact P1
      isplitl [P2]; · iexact P2
      isplitl [P3]; · iexact P3
      iexact P4
    isplitl [Q0]; · iapply (Entails.of_eq (congrArg (pt c O0) e0)); iexact Q0
    isplitl [Q1]; · iapply (Entails.of_eq (congrArg (pt c O1) e1)); iexact Q1
    isplitl [Q2]; · iapply (Entails.of_eq (congrArg (pt c O2) e2)); iexact Q2
    isplitl [Q3]; · iapply (Entails.of_eq (congrArg (pt c O3) e3)); iexact Q3
    isplitl [Q4]; · iapply (Entails.of_eq (congrArg (pt c O4) e4)); iexact Q4
    isplitl [Q5]; · iapply (Entails.of_eq (congrArg (pt c O5) e5)); iexact Q5
    isplitl [Q6]; · iapply (Entails.of_eq (congrArg (pt c O6) e6)); iexact Q6
    iapply (Entails.of_eq (congrArg (pt c O7) e7)); iexact Q7
  iexact HW

/-- The kernel run from its buffers as the program left them writes its results. -/
theorem sound (c : Dev nD) (W : Waits sig Unit) : iprop(around m c (V m c) ∗ owes (c : Thread nD τ) 0 W)
    ⊢ wp frame (wpE defs₀ Variants.none (c : Thread nD τ) none) Set.univ (cc0_dcn_cross (F := F) A0 (Memref.isWhole_whole _) A1 (Memref.isWhole_whole _) A2 (Memref.isWhole_whole _) A3 (Memref.isWhole_whole _) A4 (Memref.isWhole_whole _) O0 (Memref.isWhole_whole _) O1 (Memref.isWhole_whole _) O2 (Memref.isWhole_whole _) O3 (Memref.isWhole_whole _) O4 (Memref.isWhole_whole _) O5 (Memref.isWhole_whole _) O6 (Memref.isWhole_whole _) O7 (Memref.isWhole_whole _) X13 (Memref.isWhole_whole _) X14 (Memref.isWhole_whole _) X15 (Memref.isWhole_whole _) X16 (Memref.isWhole_whole _) X17 (Memref.isWhole_whole _) X18 (Memref.isWhole_whole _) X19 (Memref.isWhole_whole _) X20 (Memref.isWhole_whole _) X21 (Memref.isWhole_whole _) X22 (Memref.isWhole_whole _) X23 (Memref.isWhole_whole _) cc0_scratch11 cc0_scratch12 cc0_scratch13)
      (fun _ => iprop(around m c (G m c) ∗ ∃ W, owes (c : Thread nD τ) 0 W)) := by
  rw [around_eq]
  iintro ⟨⟨⟨S13, ⟨%g, S14⟩, S15, S16, S17, S18, S19, S20, S21, S22, S23⟩, Hs, ⟨P0, P1, P2, P3, P4⟩, ⟨Q0, Q1, Q2, Q3, Q4, Q5, Q6, Q7⟩⟩, HW⟩
  ihave Hs2 := (sems_split c) $$ Hs
  icases Hs2 with ⟨Hc, Hs3⟩
  unfold sems12
  icases Hs3 with ⟨I0, I1, I2, I3, I4, I5, I6, I7, I8, I9, I10, I11⟩
  ihave C := (slabs_split c) $$ S19
  icases C with ⟨C0, C1, C2⟩
  ihave T := (rows_split c) $$ S21
  icases T with ⟨T0, T1, T2⟩
  iapply ((body c (V m c main_arg1) (V m c main_v0) (V m c main_arg2) (V m c main_arg3) (V m c main_arg4) W).trans (wp_mono _ _ _ fun _ => after_body m c g))
  isplitl [Hc S14 P1]
  · iapply ((free_split c (V m c main_arg1)).trans (free_group c (V m c main_arg1)))
    isplitl [Hc]; · iexact Hc
    isplitl [S14]; · iexists g; iexact S14
    iexact P1
  isplitl [P0 P2 P3 P4]
  · isplitl [P0]; · iexact P0
    isplitl [P2]; · iexact P2
    isplitl [P3]; · iexact P3
    iexact P4
  isplitl [Q0 Q1 Q2 Q3 Q4 Q5 Q6 Q7]
  · isplitl [Q0]; · iexists _; iexact Q0
    isplitl [Q1]; · iexists _; iexact Q1
    isplitl [Q2]; · iexists _; iexact Q2
    isplitl [Q3]; · iexists _; iexact Q3
    isplitl [Q4]; · iexists _; iexact Q4
    isplitl [Q5]; · iexists _; iexact Q5
    isplitl [Q6]; · iexists _; iexact Q6
    iexists _; iexact Q7
  isplitr [HW]
  · isplitl [S13]; · iexact S13
    isplitl [S15]; · iexact S15
    isplitl [S16]; · iexact S16
    isplitl [S17]; · iexact S17
    isplitl [S18]; · iexact S18
    isplitl [S20]; · iexact S20
    isplitl [S22]; · iexact S22
    isplitl [S23]; · iexact S23
    isplitl [C0]; · iexact C0
    isplitl [C1]; · iexact C1
    isplitl [C2]; · iexact C2
    isplitl [T0]; · iexact T0
    isplitl [T1]; · iexact T1
    isplitl [T2]; · iexact T2
    isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    isplitl [I8]; · iexact I8
    isplitl [I9]; · iexact I9
    isplitl [I10]; · iexact I10
    iexact I11
  iexact HW

theorem defs₀_row (t : Fin cfg0.N) :
    defs₀ (F := F) .tc cfg0.body (cfg0.bodyArgs t (cfg0.slots t)) = bodyAt0 t := by
  unfold defs₀; rw [Defs.onTc_tc]

/-- The kernel's one step keeps the proof data. -/
theorem sound_step (c : Dev nD) (t : Fin cfg0.N) :
    iprop((dats m 0 c).Φ t.castSucc ∗ (dats m 0 c).owesAt () t.castSucc ∗ emp)
      ⊢ wp frame (wpE (defs₀ (F := F)) Variants.none c none) Set.univ (bodyAt0 t) (fun _ => iprop((dats m 0 c).Φ t.succ ∗ (dats m 0 c).owesAt () t.succ ∗ emp)) := by
  obtain rfl := fin_N0 t
  rw [show (dats m 0 c).Φ t0_0.castSucc = around m c (V m c) from rfl, show (dats m 0 c).Φ t0_0.succ = around m c (G m c) from rfl]
  unfold Dat.owesAt Pipeline.owesWithin
  rw [show (dats m 0 c).owed t0_0.castSucc = 0 from rfl, show (dats m 0 c).owed t0_0.succ = 0 from rfl]
  iintro ⟨H, ⟨%W, -, HW⟩, -⟩
  iapply ((sound m c W).trans (wp_mono _ _ _ fun _ => show iprop(around m c (G m c) ∗ ∃ W, owes (c : Thread nD τ) 0 W) ⊢ _ from by
    iintro ⟨H, ⟨%W', HW'⟩⟩
    isplitl [H]; · iexact H
    isplitl [HW']
    · iexists W'; isplitr; · ipureintro; exact fun _ _ => Or.inl trivial
      iexact HW'
    iempintro))
  isplitl [H]; · iexact H
  iexact HW

theorem body_obligation (c : Dev nD) : BodyObligation (dats (F := F) m 0 c) (defs₀ (F := F)) Variants.none () Set.univ := fun t => by
  rw [show (Finset.univ : Finset (Fin cfg0.W)) = ∅ from rfl, bigSep_empty, bigSep_empty, defs₀_row]
  exact triple_restated (sound_step m c t) rfl .rfl fun _ => .rfl

set_option maxHeartbeats 800000 in
theorem hmain : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- A buffer's contents at the end: the program's last reshapes over the results written. -/
abbrev atEnd (c : Dev nD) (b : Ref sig .tc) : Buf (Elt F) ((c.tc : Thread nD τ).loc b) :=
  StableHlo.after (List.flatten [hostOps1]) (Pipeline.withArrays cfg0.spec c (Pipeline.withR (V0 m c) W0 c (G m c)) fun w => (dats m 0 c).arrAt w cfg0.N) (Proc.devRef .tc b)

set_option backward.isDefEq.respectTransparency.types false in
/-- The whole program runs, leaves every buffer as `atEnd` says and every counter at zero. -/
theorem run_main : θ_run defs (onTc (τ := τ) (main (F := F))) (s₀ m ρ)
    (fun r => (∀ c : Dev nD, ∀ b ∈ Pipeline.restRefs sig cfg0.spec, r.2.mem ((c.tc : Thread nD τ).loc b) = atEnd m c b) ∧ r.2.sem = fun _ => 0) :=
  Pipeline.θ_run_frame_dmaR_aroundV cfgs (dats m) (0 : Fin 1) launch0 osem0 defs₀ Variants.none ownSemFacts0 H0 W0 H0_sub W0_sub m ρ main
    (hbody := fun c => (body_obligation m c).loose) (hshare := fun c w => w.elim0)
    (howed := fun _ _ => rfl) (V₀ := V0 m) (opss := [hostOps1]) sfx_sub sfx_fresh sfx_keeps (G m) (hmain := hmain m) (hA := A_eq m)
    (hin := fun _ => .rfl) (hout := fun _ => .rfl) _ (fun r h => ⟨fun c b hb => (h.1 c).2 b hb, h.2⟩)

end Cert.KernelIdeal.Run
-- ==== Proof.Run.End.lean ====
module

public import proofs.«01_k».proof.Proof.Run.Launch
public import Idealize.ShloMosaic.Lib.StableHlo.RunRead

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A whole buffer's contents reading `X` are `X`. -/
theorem unread_whole (b : Ref sig .tc) (X : b.ty.shape.Idx → Elt F b.ty.elt) : (Memref.isWhole_whole b).unread (Val := Elt F) X = X :=
  ((Memref.isWhole_whole b).eq_unread (Val := Elt F) (f := X) rfl).symm

/-- Under the last reshapes, a buffer is the kernel's result or as it was. -/
abbrev afterKernel (c : Dev nD) : Valuation τ sig (Elt F) :=
  Pipeline.withArrays cfg0.spec c (Pipeline.withR (V0 m c) W0 c (G m c)) fun w => (dats m 0 c).arrAt w cfg0.N
theorem afterKernel_res (c : Dev nD) (b : Ref sig .tc) (hb : b ∈ W0) : afterKernel m c (Proc.devRef .tc b) = G m c b := by
  exact (Pipeline.withArrays_of_ne _ _ _ _ _ fun w => w.elim0).trans (Pipeline.withR_of_mem _ _ _ _ _ hb)
theorem afterKernel_rest (c : Dev nD) (b : Ref sig .tc) (hb : b ∉ W0) : afterKernel m c (Proc.devRef .tc b) = V m c b := by
  exact (Pipeline.withArrays_of_ne _ _ _ _ _ fun w => w.elim0).trans (Pipeline.withR_of_not_mem _ _ _ _ _ hb)
theorem end_arg0 (c : Dev nD) : atEnd m c main_arg0 = m ((c.tc : Thread nD τ).loc main_arg0) := by
  have h : atEnd m c main_arg0 = afterKernel m c (Proc.devRef .tc main_arg0) := by
    unfold atEnd; after_reads_simp
  rw [h, afterKernel_rest m c main_arg0 (by decide)]; exact V_main_arg0 m c
theorem end_arg1 (c : Dev nD) : atEnd m c main_arg1 = m ((c.tc : Thread nD τ).loc main_arg1) := by
  have h : atEnd m c main_arg1 = afterKernel m c (Proc.devRef .tc main_arg1) := by
    unfold atEnd; after_reads_simp
  rw [h, afterKernel_rest m c main_arg1 (by decide)]; exact V_main_arg1 m c
theorem end_arg2 (c : Dev nD) : atEnd m c main_arg2 = m ((c.tc : Thread nD τ).loc main_arg2) := by
  have h : atEnd m c main_arg2 = afterKernel m c (Proc.devRef .tc main_arg2) := by
    unfold atEnd; after_reads_simp
  rw [h, afterKernel_rest m c main_arg2 (by decide)]; exact V_main_arg2 m c
theorem end_arg3 (c : Dev nD) : atEnd m c main_arg3 = m ((c.tc : Thread nD τ).loc main_arg3) := by
  have h : atEnd m c main_arg3 = afterKernel m c (Proc.devRef .tc main_arg3) := by
    unfold atEnd; after_reads_simp
  rw [h, afterKernel_rest m c main_arg3 (by decide)]; exact V_main_arg3 m c
theorem end_arg4 (c : Dev nD) : atEnd m c main_arg4 = m ((c.tc : Thread nD τ).loc main_arg4) := by
  have h : atEnd m c main_arg4 = afterKernel m c (Proc.devRef .tc main_arg4) := by
    unfold atEnd; after_reads_simp
  rw [h, afterKernel_rest m c main_arg4 (by decide)]; exact V_main_arg4 m c
theorem end_v2 (c : Dev nD) : atEnd m c main_v2 = shapeCast S1x128x3584 (R0 (inX m c) (inW m c) (inS m c) (inB m c) (inH m c)) shapeCasts_S128x3584_S1x128x3584 := by
  have h : atEnd m c main_v2 = shapeCast S1x128x3584 (afterKernel m c (Proc.devRef .tc main_v1_0)) shapeCasts_S128x3584_S1x128x3584 := by
    unfold atEnd; after_reads_simp; try rfl
  rw [h, afterKernel_res m c main_v1_0 (by decide), G_0]
  exact congrArg (fun X => shapeCast S1x128x3584 X shapeCasts_S128x3584_S1x128x3584) (unread_whole main_v1_0 _)
theorem end_v3 (c : Dev nD) : atEnd m c main_v3 = shapeCast S1x128x3584 (R1 (inX m c) (inH m c)) shapeCasts_S128x3584_S1x128x3584 := by
  have h : atEnd m c main_v3 = shapeCast S1x128x3584 (afterKernel m c (Proc.devRef .tc main_v1_1)) shapeCasts_S128x3584_S1x128x3584 := by
    unfold atEnd; after_reads_simp; try rfl
  rw [h, afterKernel_res m c main_v1_1 (by decide), G_1]
  exact congrArg (fun X => shapeCast S1x128x3584 X shapeCasts_S128x3584_S1x128x3584) (unread_whole main_v1_1 _)
theorem end_v4 (c : Dev nD) : atEnd m c main_v4 = shapeCast S_ (R2 (inH m c)) shapeCasts_S1x1_S_ := by
  have h : atEnd m c main_v4 = shapeCast S_ (afterKernel m c (Proc.devRef .tc main_v1_2)) shapeCasts_S1x1_S_ := by
    unfold atEnd; after_reads_simp; try rfl
  rw [h, afterKernel_res m c main_v1_2 (by decide), G_2]
  exact congrArg (fun X => shapeCast S_ X shapeCasts_S1x1_S_) (unread_whole main_v1_2 _)
theorem end_v5 (c : Dev nD) : atEnd m c main_v5 = shapeCast S1x128x3584 (R3 (inX m c) (inW m c) (inS m c) (inB m c) (inH m c)) shapeCasts_S128x3584_S1x128x3584 := by
  have h : atEnd m c main_v5 = shapeCast S1x128x3584 (afterKernel m c (Proc.devRef .tc main_v1_3)) shapeCasts_S128x3584_S1x128x3584 := by
    unfold atEnd; after_reads_simp; try rfl
  rw [h, afterKernel_res m c main_v1_3 (by decide), G_3]
  exact congrArg (fun X => shapeCast S1x128x3584 X shapeCasts_S128x3584_S1x128x3584) (unread_whole main_v1_3 _)
theorem end_v6 (c : Dev nD) : atEnd m c main_v6 = shapeCast S_ (R4 (inH m c)) shapeCasts_S1x1_S_ := by
  have h : atEnd m c main_v6 = shapeCast S_ (afterKernel m c (Proc.devRef .tc main_v1_4)) shapeCasts_S1x1_S_ := by
    unfold atEnd; after_reads_simp; try rfl
  rw [h, afterKernel_res m c main_v1_4 (by decide), G_4]
  exact congrArg (fun X => shapeCast S_ X shapeCasts_S1x1_S_) (unread_whole main_v1_4 _)
theorem end_v7 (c : Dev nD) : atEnd m c main_v7 = shapeCast S1x128x3584 (R5 (inX m c) (inW m c) (inS m c) (inB m c) (inH m c)) shapeCasts_S128x3584_S1x128x3584 := by
  have h : atEnd m c main_v7 = shapeCast S1x128x3584 (afterKernel m c (Proc.devRef .tc main_v1_5)) shapeCasts_S128x3584_S1x128x3584 := by
    unfold atEnd; after_reads_simp; try rfl
  rw [h, afterKernel_res m c main_v1_5 (by decide), G_5]
  exact congrArg (fun X => shapeCast S1x128x3584 X shapeCasts_S128x3584_S1x128x3584) (unread_whole main_v1_5 _)
theorem end_v8 (c : Dev nD) : atEnd m c main_v8 = shapeCast S_ (R6 (inH m c)) shapeCasts_S1x1_S_ := by
  have h : atEnd m c main_v8 = shapeCast S_ (afterKernel m c (Proc.devRef .tc main_v1_6)) shapeCasts_S1x1_S_ := by
    unfold atEnd; after_reads_simp; try rfl
  rw [h, afterKernel_res m c main_v1_6 (by decide), G_6]
  exact congrArg (fun X => shapeCast S_ X shapeCasts_S1x1_S_) (unread_whole main_v1_6 _)
theorem end_v1_7 (c : Dev nD) : atEnd m c main_v1_7 = newHist (inX m c) (inW m c) (inS m c) (inB m c) (inH m c) := by
  have h : atEnd m c main_v1_7 = afterKernel m c (Proc.devRef .tc main_v1_7) := by
    unfold atEnd; after_reads_simp
  rw [h, afterKernel_res m c main_v1_7 (by decide), G_7]
  exact unread_whole main_v1_7 _

/-- The reshaped input the kernel reads. -/
theorem inX_eq (c : Dev nD) : inX m c = shapeCast S128x3584 (m ((c.tc : Thread nD τ).loc main_arg0) : S1x128x3584.Idx → Elt F .bf16) shapeCasts_S1x128x3584_S128x3584 := by
  have h : V m c main_v0 = shapeCast S128x3584 (m ((c.tc : Thread nD τ).loc main_arg0) : S1x128x3584.Idx → Elt F .bf16) shapeCasts_S1x128x3584_S128x3584 := by
    unfold V V0; after_reads_simp; try rfl
  exact h
theorem inW_eq (c : Dev nD) : inW m c = m ((c.tc : Thread nD τ).loc main_arg1) := V_main_arg1 m c
theorem inS_eq (c : Dev nD) : inS m c = m ((c.tc : Thread nD τ).loc main_arg2) := V_main_arg2 m c
theorem inB_eq (c : Dev nD) : inB m c = m ((c.tc : Thread nD τ).loc main_arg3) := V_main_arg3 m c
theorem inH_eq (c : Dev nD) : inH m c = m ((c.tc : Thread nD τ).loc main_arg4) := V_main_arg4 m c

/-- The whole program runs, its arguments end as they were and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h.1 c main_arg0 (Pipeline.mem_restRefs_of main_arg0 (by decide) (by decide))).trans (end_arg0 m c), (h.1 c main_arg1 (Pipeline.mem_restRefs_of main_arg1 (by decide) (by decide))).trans (end_arg1 m c), (h.1 c main_arg2 (Pipeline.mem_restRefs_of main_arg2 (by decide) (by decide))).trans (end_arg2 m c), (h.1 c main_arg3 (Pipeline.mem_restRefs_of main_arg3 (by decide) (by decide))).trans (end_arg3 m c), (h.1 c main_arg4 (Pipeline.mem_restRefs_of main_arg4 (by decide) (by decide))).trans (end_arg4 m c)⟩, h.2⟩) (run_main m ρ)

/-- It ends with its results at the values `Whole` names and its arguments as they were. -/
theorem values : θ_run defs (onTc (τ := τ) (main (F := F))) ⟨m, fun _ => 0, ρ⟩ (fun r => ∀ c : Dev nD,
      r.2.mem ((c.tc : Thread nD τ).loc main_v2) = shapeCast S1x128x3584 (R0 (inX m c) (inW m c) (inS m c) (inB m c) (inH m c)) shapeCasts_S128x3584_S1x128x3584
      ∧ r.2.mem ((c.tc : Thread nD τ).loc main_v3) = shapeCast S1x128x3584 (R1 (inX m c) (inH m c)) shapeCasts_S128x3584_S1x128x3584
      ∧ r.2.mem ((c.tc : Thread nD τ).loc main_v4) = shapeCast S_ (R2 (inH m c)) shapeCasts_S1x1_S_
      ∧ r.2.mem ((c.tc : Thread nD τ).loc main_v5) = shapeCast S1x128x3584 (R3 (inX m c) (inW m c) (inS m c) (inB m c) (inH m c)) shapeCasts_S128x3584_S1x128x3584
      ∧ r.2.mem ((c.tc : Thread nD τ).loc main_v6) = shapeCast S_ (R4 (inH m c)) shapeCasts_S1x1_S_
      ∧ r.2.mem ((c.tc : Thread nD τ).loc main_v7) = shapeCast S1x128x3584 (R5 (inX m c) (inW m c) (inS m c) (inB m c) (inH m c)) shapeCasts_S128x3584_S1x128x3584
      ∧ r.2.mem ((c.tc : Thread nD τ).loc main_v8) = shapeCast S_ (R6 (inH m c)) shapeCasts_S1x1_S_
      ∧ r.2.mem ((c.tc : Thread nD τ).loc main_v1_7) = newHist (inX m c) (inW m c) (inS m c) (inB m c) (inH m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1 c main_v2 (Pipeline.mem_restRefs_of main_v2 (by decide) (by decide))).trans (end_v2 m c),
    (h.1 c main_v3 (Pipeline.mem_restRefs_of main_v3 (by decide) (by decide))).trans (end_v3 m c),
    (h.1 c main_v4 (Pipeline.mem_restRefs_of main_v4 (by decide) (by decide))).trans (end_v4 m c),
    (h.1 c main_v5 (Pipeline.mem_restRefs_of main_v5 (by decide) (by decide))).trans (end_v5 m c),
    (h.1 c main_v6 (Pipeline.mem_restRefs_of main_v6 (by decide) (by decide))).trans (end_v6 m c),
    (h.1 c main_v7 (Pipeline.mem_restRefs_of main_v7 (by decide) (by decide))).trans (end_v7 m c),
    (h.1 c main_v8 (Pipeline.mem_restRefs_of main_v8 (by decide) (by decide))).trans (end_v8 m c),
    (h.1 c main_v1_7 (Pipeline.mem_restRefs_of main_v1_7 (by decide) (by decide))).trans (end_v1_7 m c),
    (h.1 c main_arg0 (Pipeline.mem_restRefs_of main_arg0 (by decide) (by decide))).trans (end_arg0 m c),
    (h.1 c main_arg1 (Pipeline.mem_restRefs_of main_arg1 (by decide) (by decide))).trans (end_arg1 m c),
    (h.1 c main_arg2 (Pipeline.mem_restRefs_of main_arg2 (by decide) (by decide))).trans (end_arg2 m c),
    (h.1 c main_arg3 (Pipeline.mem_restRefs_of main_arg3 (by decide) (by decide))).trans (end_arg3 m c),
    (h.1 c main_arg4 (Pipeline.mem_restRefs_of main_arg4 (by decide) (by decide))).trans (end_arg4 m c)⟩) (run_main m ρ)

end Cert.KernelIdeal.Run
-- ==== Proof.Ref.Values.lean ====
module

public import proofs.«01_k».proof.Proof.Gen.ReferenceIdeal.Frame
public import Idealize.ShloMosaic.Lib.StableHlo.RunRead
public import Idealize.ShloMosaic.Lib.Pipeline.ValueKit

@[expose] public section

set_option maxRecDepth 16384

noncomputable section

namespace Cert.ReferenceIdeal.Values

open Cert.ReferenceIdeal Cert.ReferenceIdeal.Gen
open Idealize.ShloMosaic Idealize.ShloMosaic.TcCoe Idealize.ShloMosaic.Tactic
open Idealize.SL.Sem

variable {F : FTy → Type} [FloatOps F]

variable (m : (ℓ : Loc nD τ sig) → Buf (Elt F) ℓ) (ρ : Dev nD → PrngReg)

/-- The grid's one point. -/
abbrev pt0 : Fin cfg0.N := ⟨0, by decide⟩

/-- The arguments as the kernel sees them. -/
abbrev inX (c : Dev nD) : Vec F S128x3584 .bf16 := shapeCast S128x3584 (m ((c.tc : Thread nD τ).loc main_arg0) : S1x128x3584.Idx → Elt F .bf16) shapeCasts_S1x128x3584_S128x3584
abbrev inW (c : Dev nD) : Vec F S3x3584x3584 .fp8e4m3 := m ((c.tc : Thread nD τ).loc main_arg1)
abbrev inS (c : Dev nD) : Vec F S3x3584 .f32 := m ((c.tc : Thread nD τ).loc main_arg2)
abbrev inB (c : Dev nD) : Vec F S3x3584 .f32 := m ((c.tc : Thread nD τ).loc main_arg3)
abbrev inH (c : Dev nD) : Vec F S3x16 .f32 := m ((c.tc : Thread nD τ).loc main_arg4)

/-! ## Every window's one block is its whole array -/

theorem iblk_0 (c : Dev nD) : iblk m c 0 pt0 = V m c main_v0 := by
  funext y
  blk_ext [iblk, (by decide +kernel : ∀ a, win0_0.index pt0 a = 0)]
theorem iblk_1 (c : Dev nD) : iblk m c 1 pt0 = V m c main_arg1 := by
  funext y
  blk_ext [iblk, (by decide +kernel : ∀ a, win0_1.index pt0 a = 0)]
theorem iblk_2 (c : Dev nD) : iblk m c 2 pt0 = V m c main_arg2 := by
  funext y
  blk_ext [iblk, (by decide +kernel : ∀ a, win0_2.index pt0 a = 0)]
theorem iblk_3 (c : Dev nD) : iblk m c 3 pt0 = V m c main_arg3 := by
  funext y
  blk_ext [iblk, (by decide +kernel : ∀ a, win0_3.index pt0 a = 0)]
theorem iblk_4 (c : Dev nD) : iblk m c 4 pt0 = V m c main_arg4 := by
  funext y
  blk_ext [iblk, (by decide +kernel : ∀ a, win0_4.index pt0 a = 0)]
theorem V_v0 (c : Dev nD) : V m c main_v0 = inX m c := by
  unfold V V0; after_reads_simp; try rfl

/-! ## What each output array ends as -/

theorem arr_5 (c : Dev nD) : (dats m 0 c).arrAt 5 cfg0.N = out0_5 (inX m c) (inW m c) (inS m c) (inB m c) (inH m c) := by
  refine (dats m 0 c).arrAt_eq_of_after_last 5 pt0 (by decide +kernel) _ fun j => ?_
  blk_simp
  rw [after0_5, iblk_0, iblk_1, iblk_2, iblk_3, iblk_4, V_v0, V_main_arg1, V_main_arg2, V_main_arg3, V_main_arg4]
theorem arr_6 (c : Dev nD) : (dats m 0 c).arrAt 6 cfg0.N = out0_6 (inX m c) (inW m c) (inS m c) (inB m c) (inH m c) := by
  refine (dats m 0 c).arrAt_eq_of_after_last 6 pt0 (by decide +kernel) _ fun j => ?_
  blk_simp
  rw [after0_6, iblk_0, iblk_1, iblk_2, iblk_3, iblk_4, V_v0, V_main_arg1, V_main_arg2, V_main_arg3, V_main_arg4]
theorem arr_7 (c : Dev nD) : (dats m 0 c).arrAt 7 cfg0.N = out0_7 (inX m c) (inW m c) (inS m c) (inB m c) (inH m c) := by
  refine (dats m 0 c).arrAt_eq_of_after_last 7 pt0 (by decide +kernel) _ fun j => ?_
  blk_simp
  rw [after0_7, iblk_0, iblk_1, iblk_2, iblk_3, iblk_4, V_v0, V_main_arg1, V_main_arg2, V_main_arg3, V_main_arg4]
theorem arr_8 (c : Dev nD) : (dats m 0 c).arrAt 8 cfg0.N = out0_8 (inX m c) (inW m c) (inS m c) (inB m c) (inH m c) := by
  refine (dats m 0 c).arrAt_eq_of_after_last 8 pt0 (by decide +kernel) _ fun j => ?_
  blk_simp
  rw [after0_8, iblk_0, iblk_1, iblk_2, iblk_3, iblk_4, V_v0, V_main_arg1, V_main_arg2, V_main_arg3, V_main_arg4]
theorem arr_9 (c : Dev nD) : (dats m 0 c).arrAt 9 cfg0.N = out0_9 (inX m c) (inW m c) (inS m c) (inB m c) (inH m c) := by
  refine (dats m 0 c).arrAt_eq_of_after_last 9 pt0 (by decide +kernel) _ fun j => ?_
  blk_simp
  rw [after0_9, iblk_0, iblk_1, iblk_2, iblk_3, iblk_4, V_v0, V_main_arg1, V_main_arg2, V_main_arg3, V_main_arg4]
theorem arr_10 (c : Dev nD) : (dats m 0 c).arrAt 10 cfg0.N = out0_10 (inX m c) (inW m c) (inS m c) (inB m c) (inH m c) := by
  refine (dats m 0 c).arrAt_eq_of_after_last 10 pt0 (by decide +kernel) _ fun j => ?_
  blk_simp
  rw [after0_10, iblk_0, iblk_1, iblk_2, iblk_3, iblk_4, V_v0, V_main_arg1, V_main_arg2, V_main_arg3, V_main_arg4]
theorem arr_11 (c : Dev nD) : (dats m 0 c).arrAt 11 cfg0.N = out0_11 (inX m c) (inW m c) (inS m c) (inB m c) (inH m c) := by
  refine (dats m 0 c).arrAt_eq_of_after_last 11 pt0 (by decide +kernel) _ fun j => ?_
  blk_simp
  rw [after0_11, iblk_0, iblk_1, iblk_2, iblk_3, iblk_4, V_v0, V_main_arg1, V_main_arg2, V_main_arg3, V_main_arg4]
theorem arr_12 (c : Dev nD) : (dats m 0 c).arrAt 12 cfg0.N = out0_12 (inX m c) (inW m c) (inS m c) (inB m c) (inH m c) := by
  refine (dats m 0 c).arrAt_eq_of_after_last 12 pt0 (by decide +kernel) _ fun j => ?_
  blk_simp
  rw [after0_12, iblk_0, iblk_1, iblk_2, iblk_3, iblk_4, V_v0, V_main_arg1, V_main_arg2, V_main_arg3, V_main_arg4]
/-! ## What each result ends as -/

theorem end_5 (c : Dev nD) : Pipeline.afterTail₀ cfgs (dats m) 0 (V0 m) [hostOps1] c main_v2 = shapeCast S1x128x3584 (out0_5 (inX m c) (inW m c) (inS m c) (inB m c) (inH m c)) shapeCasts_S128x3584_S1x128x3584 := by
  have h : Pipeline.afterTail₀ cfgs (dats m) 0 (V0 m) [hostOps1] c main_v2 = shapeCast S1x128x3584 (Pipeline.withArrays cfg0.spec c (V0 m c) (fun w => (dats m 0 c).arrAt w cfg0.N) (Proc.devRef .tc main_v1_0)) shapeCasts_S128x3584_S1x128x3584 := by
    unfold Pipeline.afterTail₀; after_reads_simp; try rfl
  rw [h]
  exact congrArg (fun X => shapeCast S1x128x3584 X shapeCasts_S128x3584_S1x128x3584) ((Pipeline.withArrays_arr spec0 (by decide) c (V0 m c) _ 5).trans (arr_5 m c))
theorem end_6 (c : Dev nD) : Pipeline.afterTail₀ cfgs (dats m) 0 (V0 m) [hostOps1] c main_v3 = shapeCast S1x128x3584 (out0_6 (inX m c) (inW m c) (inS m c) (inB m c) (inH m c)) shapeCasts_S128x3584_S1x128x3584 := by
  have h : Pipeline.afterTail₀ cfgs (dats m) 0 (V0 m) [hostOps1] c main_v3 = shapeCast S1x128x3584 (Pipeline.withArrays cfg0.spec c (V0 m c) (fun w => (dats m 0 c).arrAt w cfg0.N) (Proc.devRef .tc main_v1_1)) shapeCasts_S128x3584_S1x128x3584 := by
    unfold Pipeline.afterTail₀; after_reads_simp; try rfl
  rw [h]
  exact congrArg (fun X => shapeCast S1x128x3584 X shapeCasts_S128x3584_S1x128x3584) ((Pipeline.withArrays_arr spec0 (by decide) c (V0 m c) _ 6).trans (arr_6 m c))
theorem end_7 (c : Dev nD) : Pipeline.afterTail₀ cfgs (dats m) 0 (V0 m) [hostOps1] c main_v4 = shapeCast S_ (out0_7 (inX m c) (inW m c) (inS m c) (inB m c) (inH m c)) shapeCasts_S1x1_S_ := by
  have h : Pipeline.afterTail₀ cfgs (dats m) 0 (V0 m) [hostOps1] c main_v4 = shapeCast S_ (Pipeline.withArrays cfg0.spec c (V0 m c) (fun w => (dats m 0 c).arrAt w cfg0.N) (Proc.devRef .tc main_v1_2)) shapeCasts_S1x1_S_ := by
    unfold Pipeline.afterTail₀; after_reads_simp; try rfl
  rw [h]
  exact congrArg (fun X => shapeCast S_ X shapeCasts_S1x1_S_) ((Pipeline.withArrays_arr spec0 (by decide) c (V0 m c) _ 7).trans (arr_7 m c))
theorem end_8 (c : Dev nD) : Pipeline.afterTail₀ cfgs (dats m) 0 (V0 m) [hostOps1] c main_v5 = shapeCast S1x128x3584 (out0_8 (inX m c) (inW m c) (inS m c) (inB m c) (inH m c)) shapeCasts_S128x3584_S1x128x3584 := by
  have h : Pipeline.afterTail₀ cfgs (dats m) 0 (V0 m) [hostOps1] c main_v5 = shapeCast S1x128x3584 (Pipeline.withArrays cfg0.spec c (V0 m c) (fun w => (dats m 0 c).arrAt w cfg0.N) (Proc.devRef .tc main_v1_3)) shapeCasts_S128x3584_S1x128x3584 := by
    unfold Pipeline.afterTail₀; after_reads_simp; try rfl
  rw [h]
  exact congrArg (fun X => shapeCast S1x128x3584 X shapeCasts_S128x3584_S1x128x3584) ((Pipeline.withArrays_arr spec0 (by decide) c (V0 m c) _ 8).trans (arr_8 m c))
theorem end_9 (c : Dev nD) : Pipeline.afterTail₀ cfgs (dats m) 0 (V0 m) [hostOps1] c main_v6 = shapeCast S_ (out0_9 (inX m c) (inW m c) (inS m c) (inB m c) (inH m c)) shapeCasts_S1x1_S_ := by
  have h : Pipeline.afterTail₀ cfgs (dats m) 0 (V0 m) [hostOps1] c main_v6 = shapeCast S_ (Pipeline.withArrays cfg0.spec c (V0 m c) (fun w => (dats m 0 c).arrAt w cfg0.N) (Proc.devRef .tc main_v1_4)) shapeCasts_S1x1_S_ := by
    unfold Pipeline.afterTail₀; after_reads_simp; try rfl
  rw [h]
  exact congrArg (fun X => shapeCast S_ X shapeCasts_S1x1_S_) ((Pipeline.withArrays_arr spec0 (by decide) c (V0 m c) _ 9).trans (arr_9 m c))
theorem end_10 (c : Dev nD) : Pipeline.afterTail₀ cfgs (dats m) 0 (V0 m) [hostOps1] c main_v7 = shapeCast S1x128x3584 (out0_10 (inX m c) (inW m c) (inS m c) (inB m c) (inH m c)) shapeCasts_S128x3584_S1x128x3584 := by
  have h : Pipeline.afterTail₀ cfgs (dats m) 0 (V0 m) [hostOps1] c main_v7 = shapeCast S1x128x3584 (Pipeline.withArrays cfg0.spec c (V0 m c) (fun w => (dats m 0 c).arrAt w cfg0.N) (Proc.devRef .tc main_v1_5)) shapeCasts_S128x3584_S1x128x3584 := by
    unfold Pipeline.afterTail₀; after_reads_simp; try rfl
  rw [h]
  exact congrArg (fun X => shapeCast S1x128x3584 X shapeCasts_S128x3584_S1x128x3584) ((Pipeline.withArrays_arr spec0 (by decide) c (V0 m c) _ 10).trans (arr_10 m c))
theorem end_11 (c : Dev nD) : Pipeline.afterTail₀ cfgs (dats m) 0 (V0 m) [hostOps1] c main_v8 = shapeCast S_ (out0_11 (inX m c) (inW m c) (inS m c) (inB m c) (inH m c)) shapeCasts_S1x1_S_ := by
  have h : Pipeline.afterTail₀ cfgs (dats m) 0 (V0 m) [hostOps1] c main_v8 = shapeCast S_ (Pipeline.withArrays cfg0.spec c (V0 m c) (fun w => (dats m 0 c).arrAt w cfg0.N) (Proc.devRef .tc main_v1_6)) shapeCasts_S1x1_S_ := by
    unfold Pipeline.afterTail₀; after_reads_simp; try rfl
  rw [h]
  exact congrArg (fun X => shapeCast S_ X shapeCasts_S1x1_S_) ((Pipeline.withArrays_arr spec0 (by decide) c (V0 m c) _ 11).trans (arr_11 m c))

/-- The reference ends with its results at the values of its one block. -/
theorem values : θ_run defs (onTc (τ := τ) (main (F := F))) ⟨m, fun _ => 0, ρ⟩ (fun r => ∀ c : Dev nD,
      r.2.mem ((c.tc : Thread nD τ).loc main_v2) = shapeCast S1x128x3584 (out0_5 (inX m c) (inW m c) (inS m c) (inB m c) (inH m c)) shapeCasts_S128x3584_S1x128x3584
      ∧ r.2.mem ((c.tc : Thread nD τ).loc main_v3) = shapeCast S1x128x3584 (out0_6 (inX m c) (inW m c) (inS m c) (inB m c) (inH m c)) shapeCasts_S128x3584_S1x128x3584
      ∧ r.2.mem ((c.tc : Thread nD τ).loc main_v4) = shapeCast S_ (out0_7 (inX m c) (inW m c) (inS m c) (inB m c) (inH m c)) shapeCasts_S1x1_S_
      ∧ r.2.mem ((c.tc : Thread nD τ).loc main_v5) = shapeCast S1x128x3584 (out0_8 (inX m c) (inW m c) (inS m c) (inB m c) (inH m c)) shapeCasts_S128x3584_S1x128x3584
      ∧ r.2.mem ((c.tc : Thread nD τ).loc main_v6) = shapeCast S_ (out0_9 (inX m c) (inW m c) (inS m c) (inB m c) (inH m c)) shapeCasts_S1x1_S_
      ∧ r.2.mem ((c.tc : Thread nD τ).loc main_v7) = shapeCast S1x128x3584 (out0_10 (inX m c) (inW m c) (inS m c) (inB m c) (inH m c)) shapeCasts_S128x3584_S1x128x3584
      ∧ r.2.mem ((c.tc : Thread nD τ).loc main_v8) = shapeCast S_ (out0_11 (inX m c) (inW m c) (inS m c) (inB m c) (inH m c)) shapeCasts_S1x1_S_
      ∧ r.2.mem ((c.tc : Thread nD τ).loc main_v1_7) = out0_12 (inX m c) (inW m c) (inS m c) (inB m c) (inH m c)) :=
  (θ_run defs _ _).mono (fun r h c => ⟨((h c).2 main_v2 (Pipeline.mem_restRefs_of main_v2 (by decide) (by decide))).trans (end_5 m c),
    ((h c).2 main_v3 (Pipeline.mem_restRefs_of main_v3 (by decide) (by decide))).trans (end_6 m c),
    ((h c).2 main_v4 (Pipeline.mem_restRefs_of main_v4 (by decide) (by decide))).trans (end_7 m c),
    ((h c).2 main_v5 (Pipeline.mem_restRefs_of main_v5 (by decide) (by decide))).trans (end_8 m c),
    ((h c).2 main_v6 (Pipeline.mem_restRefs_of main_v6 (by decide) (by decide))).trans (end_9 m c),
    ((h c).2 main_v7 (Pipeline.mem_restRefs_of main_v7 (by decide) (by decide))).trans (end_10 m c),
    ((h c).2 main_v8 (Pipeline.mem_restRefs_of main_v8 (by decide) (by decide))).trans (end_11 m c),
    ((h c).1 12).trans (arr_12 m c)⟩) (run_main m ρ)

end Cert.ReferenceIdeal.Values
-- ==== Proof.Eq.Layers.lean ====
/- A panel of what each layer makes is what the kernel makes of the panels. -/
module

public import proofs.«01_k».proof.Proof.Run.Whole
public import proofs.«01_k».proof.Proof.Gen.ReferenceIdeal.Frame
public import Idealize.ShloMosaic.Lib.Pointwise

@[expose] public section

set_option maxRecDepth 16384

noncomputable section

namespace Cert.Eq

open Idealize.ShloMosaic
open Cert.KernelIdeal.Run (colP rowP wP paste2 paste3)

open Cert.KernelIdeal (S128x512 S128x3584 S1x128x512 S1x128x3584 S3x1 S3x3584x3584 S3x3584 S3x16)
open Cert.ReferenceIdeal (S1x3584x3584 S1x3584)

/-- Panels side by side give back the whole. -/
theorem paste2_eq {α : Type} (p : Fin 7 → S128x512.Idx → α) (c : S128x3584.Idx → α) (hp : ∀ k : Fin 7, p k = colP c k) : paste2 p = c := by
  funext j
  show p _ _ = c j
  rw [hp]
  unfold colP
  congr 1
  funext a
  refine Fin.ext ?_
  fin_cases a
  · rfl
  · exact Nat.div_add_mod _ 512

/-- The same of panels under a leading unit axis, the axis dropped. -/
theorem paste3_eq {α : Type} (hs : S1x128x3584.ShapeCasts S128x3584) (p : Fin 7 → S1x128x512.Idx → α) (c : S128x3584.Idx → α)
    (hp : ∀ (k : Fin 7) (a : Fin 128) (b : Fin 512), p k (ix3 0 a b) = colP c k (ix2 a b)) : shapeCast S128x3584 (paste3 p) hs = c := by
  rw [← paste2_eq (fun k (i : S128x512.Idx) => p k (ix3 0 (i 0) (i 1))) c fun k => funext fun i => by rw [eq_ix2 i]; exact hp k _ _]
  funext j
  obtain ⟨a, b, rfl⟩ : ∃ (a : Fin 128) (b : Fin 3584), j = ix2 a b := ⟨j 0, j 1, eq_ix2 j⟩
  pointwise []
  rfl

/-- The first layer's codes. -/
theorem codes_first (h : FVec Ideal S3x16 .f32) (x : FVec Ideal S128x3584 .bf16) (k : Fin 7) (a : Fin 128) (b : Fin 512) :
    (Cert.KernelIdeal.Gen.k0_pay2 (Cert.ReferenceIdeal.Gen.k0_pay4 h) (colP x k)) (ix3 0 a b) = colP (Cert.ReferenceIdeal.Gen.k0_pay6 (F := Ideal) h x) k (ix2 a b) := by
  unfold colP Cert.ReferenceIdeal.Gen.k0_pay6
  generalize Cert.ReferenceIdeal.Gen.k0_pay4 (F := Ideal) h = I
  pointwise [Cert.KernelIdeal.Gen.k0_pay2, Cert.KernelIdeal.Gen.k0_pay1, Cert.ReferenceIdeal.Gen.k0_pay5]

/-- The first layer. -/
theorem layer_first (hs : S1x128x3584.ShapeCasts S128x3584) (s : FVec Ideal S3x1 .f32) (C : FVec Ideal S1x128x3584 .fp8e4m3) (c : FVec Ideal S128x3584 .fp8e4m3)
    (hc : shapeCast S128x3584 C hs = c) (x : FVec Ideal S128x3584 .bf16) (w : FVec Ideal S3x3584x3584 .fp8e4m3) (ws b : FVec Ideal S3x3584 .f32) (k : Fin 7) :
    Cert.KernelIdeal.Gen.k0_pay89 s C (wP w 0 k) (rowP ws 0 k) (rowP b 0 k) (colP x k)
      = colP (Cert.ReferenceIdeal.Gen.k0_pay10 s (Cert.ReferenceIdeal.Gen.k0_pay5 x) c (View.ld w Cert.ReferenceIdeal.Gen.r0_3) (View.ld ws Cert.ReferenceIdeal.Gen.r0_4) (View.ld b Cert.ReferenceIdeal.Gen.r0_4)) k := by
  subst hc
  funext j
  obtain ⟨p, q, rfl⟩ : ∃ (p : Fin 128) (q : Fin 512), j = ix2 p q := ⟨j 0, j 1, eq_ix2 j⟩
  unfold colP rowP wP
  pointwise [Cert.KernelIdeal.Gen.k0_pay89, Cert.ReferenceIdeal.Gen.k0_pay10, Cert.ReferenceIdeal.Gen.k0_pay5]

/-- The second layer's codes. -/
theorem codes_second (s I : FVec Ideal S3x1 .f32) (xf : FVec Ideal S128x3584 .f32) (c : FVec Ideal S128x3584 .fp8e4m3) (w1 : Vec Ideal S1x3584x3584 .fp8e4m3)
    (s1 b1 : Vec Ideal S1x3584 .f32) (k : Fin 7) (a : Fin 128) (b : Fin 512) :
    (Cert.KernelIdeal.Gen.k0_pay92 (colP (Cert.ReferenceIdeal.Gen.k0_pay10 s xf c w1 s1 b1) k) (Cert.KernelIdeal.Gen.k0_pay91 I)) (ix3 0 a b) = colP (Cert.ReferenceIdeal.Gen.k0_pay11 s I xf c w1 s1 b1) k (ix2 a b) := by
  unfold colP Cert.ReferenceIdeal.Gen.k0_pay11
  generalize Cert.ReferenceIdeal.Gen.k0_pay10 (F := Ideal) s xf c w1 s1 b1 = n
  pointwise [Cert.KernelIdeal.Gen.k0_pay92, Cert.KernelIdeal.Gen.k0_pay91]

/-- The second layer. -/
theorem layer_second (hs : S1x128x3584.ShapeCasts S128x3584) (s I : FVec Ideal S3x1 .f32) (C : FVec Ideal S1x128x3584 .fp8e4m3) (c : FVec Ideal S128x3584 .fp8e4m3)
    (w1 : Vec Ideal S1x3584x3584 .fp8e4m3) (s1 b1 : Vec Ideal S1x3584 .f32)
    (x : FVec Ideal S128x3584 .bf16) (w : FVec Ideal S3x3584x3584 .fp8e4m3) (ws b : FVec Ideal S3x3584 .f32) (n : FVec Ideal S128x3584 .f32)
    (hc : shapeCast S128x3584 C hs = Cert.ReferenceIdeal.Gen.k0_pay11 s I (Cert.ReferenceIdeal.Gen.k0_pay5 x) c w1 s1 b1) (k : Fin 7) :
    Cert.KernelIdeal.Gen.k0_pay173 s C (wP w 1 k) (rowP ws 1 k) (rowP b 1 k) (colP x k) (colP n k)
      = colP (Cert.ReferenceIdeal.Gen.k0_pay15 (Cert.ReferenceIdeal.Gen.k0_pay5 x) n (Cert.ReferenceIdeal.Gen.k0_pay14 s I (Cert.ReferenceIdeal.Gen.k0_pay5 x) c w1 s1 b1 (View.ld w Cert.ReferenceIdeal.Gen.r0_5)) (View.ld ws Cert.ReferenceIdeal.Gen.r0_6) (View.ld b Cert.ReferenceIdeal.Gen.r0_6)) k := by
  unfold Cert.ReferenceIdeal.Gen.k0_pay14
  rw [← hc]
  funext j
  obtain ⟨p, q, rfl⟩ : ∃ (p : Fin 128) (q : Fin 512), j = ix2 p q := ⟨j 0, j 1, eq_ix2 j⟩
  unfold colP rowP wP
  pointwise [Cert.KernelIdeal.Gen.k0_pay173, Cert.ReferenceIdeal.Gen.k0_pay15, Cert.ReferenceIdeal.Gen.k0_pay5]

/-- The last layer's codes. -/
theorem codes_third (I : FVec Ideal S3x1 .f32) (xf n d : FVec Ideal S128x3584 .f32) (s1 b1 : Vec Ideal S1x3584 .f32) (k : Fin 7) (a : Fin 128) (b : Fin 512) :
    (Cert.KernelIdeal.Gen.k0_pay175 I (colP (Cert.ReferenceIdeal.Gen.k0_pay15 xf n d s1 b1) k)) (ix3 0 a b) = colP (Cert.ReferenceIdeal.Gen.k0_pay16 I xf n d s1 b1) k (ix2 a b) := by
  unfold colP Cert.ReferenceIdeal.Gen.k0_pay16
  generalize Cert.ReferenceIdeal.Gen.k0_pay15 (F := Ideal) xf n d s1 b1 = v
  pointwise [Cert.KernelIdeal.Gen.k0_pay175]

/-- The last layer. -/
theorem layer_third (hs : S1x128x3584.ShapeCasts S128x3584) (s I : FVec Ideal S3x1 .f32) (C : FVec Ideal S1x128x3584 .fp8e4m3)
    (x : FVec Ideal S128x3584 .bf16) (w : FVec Ideal S3x3584x3584 .fp8e4m3) (ws b : FVec Ideal S3x3584 .f32) (n d : FVec Ideal S128x3584 .f32) (s1 b1 : Vec Ideal S1x3584 .f32)
    (hc : shapeCast S128x3584 C hs = Cert.ReferenceIdeal.Gen.k0_pay16 I (Cert.ReferenceIdeal.Gen.k0_pay5 x) n d s1 b1) (k : Fin 7) :
    Cert.KernelIdeal.Gen.k0_pay259 s C (wP w 2 k) (rowP ws 2 k) (rowP b 2 k) (colP x k) (colP (Cert.ReferenceIdeal.Gen.k0_pay15 (Cert.ReferenceIdeal.Gen.k0_pay5 x) n d s1 b1) k)
      = colP (Cert.ReferenceIdeal.Gen.k0_pay19 s I (Cert.ReferenceIdeal.Gen.k0_pay5 x) n d s1 b1 (View.ld w Cert.ReferenceIdeal.Gen.r0_7) (View.ld ws Cert.ReferenceIdeal.Gen.r0_8) (View.ld b Cert.ReferenceIdeal.Gen.r0_8)) k := by
  unfold Cert.ReferenceIdeal.Gen.k0_pay19
  rw [← hc]
  generalize Cert.ReferenceIdeal.Gen.k0_pay15 (F := Ideal) (Cert.ReferenceIdeal.Gen.k0_pay5 x) n d s1 b1 = v
  funext j
  obtain ⟨p, q, rfl⟩ : ∃ (p : Fin 128) (q : Fin 512), j = ix2 p q := ⟨j 0, j 1, eq_ix2 j⟩
  unfold colP rowP wP
  pointwise [Cert.KernelIdeal.Gen.k0_pay259, Cert.ReferenceIdeal.Gen.k0_pay5]
end Cert.Eq
-- ==== Proof.Eq.Max.lean ====
/- The running maximum the kernel keeps over tiles of panels has, over its lanes, the maximum of the whole. -/
module

public import proofs.«01_k».proof.Proof.Run.Whole
public import Idealize.ShloMosaic.Lib.Pointwise

@[expose] public section

set_option maxRecDepth 16384

noncomputable section

namespace Cert.Eq

open Idealize.ShloMosaic
open Cert.KernelIdeal.Run (colP rowP wP paste2 paste3)

open Cert.KernelIdeal (S8x128 S128x512 S128x3584)
open Cert.KernelIdeal.Run (tile foldT amaxUpTo tileOff)

/-- The absolute value of a cell. -/
def mag (x : EReal) : EReal := max x (-x)

theorem mag_nonneg (x : EReal) : 0 ≤ mag x := by
  rcases le_total 0 x with h | h
  · exact le_trans h (le_max_left _ _)
  · exact le_trans (EReal.neg_nonneg.mpr h) (le_max_right _ _)

/-- A lane of a tile is the magnitude of one cell of the panel. -/
theorem tile_apply (v : FVec Ideal S128x512 .f32) (n : Nat) (i : Fin 8) (j : Fin 128) (hr : 8 * (n / 4 % 16) + i.val < 128) (hc : 128 * (n % 4) + j.val < 512) :
    tile v n (ix2 i j) = mag (v (ix2 ⟨8 * (n / 4 % 16) + i.val, hr⟩ ⟨128 * (n % 4) + j.val, hc⟩)) := by
  have e : extractStridedSlice S8x128 (tileOff n) v (Cert.KernelIdeal.Run.tile_slices n) (ix2 i j) = v (ix2 ⟨8 * (n / 4 % 16) + i.val, hr⟩ ⟨128 * (n % 4) + j.val, hc⟩) := by
    unfold extractStridedSlice
    congr 1
    funext a
    refine Fin.ext ?_
    fin_cases a
    · rfl
    · rfl
  show mag (extractStridedSlice S8x128 (tileOff n) v (Cert.KernelIdeal.Run.tile_slices n) (ix2 i j)) = _
  rw [e]

/-- A group of tiles is bounded by what bounds each cell. -/
theorem foldT_le (v : FVec Ideal S128x512 .f32) (B : EReal) (hB : ∀ q : S128x512.Idx, mag (v q) ≤ B) (d : Nat) : ∀ (n : Nat) (p : S8x128.Idx), foldT v d n p ≤ B := by
  induction d with
  | zero =>
    intro n p
    rw [eq_ix2 p]
    have h1 : n / 4 % 16 < 16 := Nat.mod_lt _ (by decide)
    have h2 : n % 4 < 4 := Nat.mod_lt _ (by decide)
    have h3 : (p 0).val < 8 := (p 0).isLt
    have h4 : (p 1).val < 128 := (p 1).isLt
    show tile v n _ ≤ B
    rw [tile_apply v n (p 0) (p 1) (by omega) (by omega)]
    exact hB _
  | succ d ih =>
    intro n p
    exact max_le (ih _ p) (ih _ p)

/-- A tile is bounded by every group it belongs to. -/
theorem le_foldT (v : FVec Ideal S128x512 .f32) (p : S8x128.Idx) (d : Nat) : ∀ (n m : Nat), m / 2 ^ d = n → tile v m p ≤ foldT v d n p := by
  induction d with
  | zero =>
    intro n m h
    rw [Nat.pow_zero, Nat.div_one] at h
    subst h
    exact le_refl _
  | succ d ih =>
    intro n m h
    have hm : m / 2 ^ d / 2 = n := by rw [Nat.div_div_eq_div_mul, ← Nat.pow_succ]; exact h
    rcases Nat.mod_two_eq_zero_or_one (m / 2 ^ d) with e | e
    · exact le_trans (ih (2 * n) m (by omega)) (le_max_left _ _)
    · exact le_trans (ih (2 * n + 1) m (by omega)) (le_max_right _ _)

theorem amax_le {T : Nat} (init : FVec Ideal S8x128 .f32) (v : Fin T → FVec Ideal S128x512 .f32) (B : EReal) (p : S8x128.Idx) (h0 : init p ≤ B)
    (hB : ∀ (k : Fin T) (q : S128x512.Idx), mag (v k q) ≤ B) : ∀ k : Nat, amaxUpTo init v k p ≤ B := by
  intro k
  induction k with
  | zero => exact h0
  | succ k ih =>
    unfold amaxUpTo
    split
    · exact max_le ih (foldT_le _ B (hB _) 6 0 p)
    · exact ih

theorem le_amax {T : Nat} (init : FVec Ideal S8x128 .f32) (v : Fin T → FVec Ideal S128x512 .f32) (p : S8x128.Idx) (k : Fin T) :
    ∀ n : Nat, k.val < n → foldT (v k) 6 0 p ≤ amaxUpTo init v n p := by
  intro n
  induction n with
  | zero => intro h; exact absurd h (Nat.not_lt_zero _)
  | succ n ih =>
    intro h
    unfold amaxUpTo
    by_cases hn : n < T
    · rw [dif_pos hn]
      rcases Nat.lt_or_eq_of_le (Nat.le_of_lt_succ h) with g | g
      · exact le_trans (ih g) (le_max_left _ _)
      · have : k = ⟨n, hn⟩ := Fin.ext g
        subst this
        exact le_max_right _ _
    · rw [dif_neg hn]
      exact ih (by have := k.isLt; omega)

/-- The maximum over the lanes of the running maximum of seven panels is the maximum over the whole. -/
theorem amax_sup (init : FVec Ideal S8x128 .f32) (hi : ∀ p, init p = (0 : EReal)) (n : FVec Ideal S128x3584 .f32) (B : EReal)
    (hB : ∀ q : S128x3584.Idx, mag (n q) ≤ B) (hlub : ∀ C : EReal, (∀ q : S128x3584.Idx, mag (n q) ≤ C) → B ≤ C)
    (A : EReal) (hA : ∀ p : S8x128.Idx, amaxUpTo init (colP n) 7 p ≤ A) (hAl : ∀ C : EReal, (∀ p : S8x128.Idx, amaxUpTo init (colP n) 7 p ≤ C) → A ≤ C) : A = B := by
  apply le_antisymm
  · refine hAl B fun p => amax_le init _ B p ?_ (fun k q => hB _) 7
    rw [hi]
    exact le_trans (mag_nonneg (n (ix2 0 0))) (hB _)
  · refine hlub A fun q => ?_
    have h1 : (q 0).val < 128 := (q 0).isLt
    have h2 : (q 1).val < 3584 := (q 1).isLt
    have hk : (q 1).val / 512 < 7 := by omega
    have hr : (q 0).val % 8 < 8 := by omega
    have hc : (q 1).val % 128 < 128 := by omega
    refine le_trans ?_ (hA (ix2 ⟨(q 0).val % 8, hr⟩ ⟨(q 1).val % 128, hc⟩))
    refine le_trans ?_ (le_amax init (colP n) _ ⟨(q 1).val / 512, hk⟩ 7 hk)
    refine le_trans (le_of_eq ?_) (le_foldT _ _ 6 0 (4 * ((q 0).val / 8) + (q 1).val % 512 / 128) (by omega))
    rw [tile_apply _ _ _ _ (by omega) (by omega)]
    refine congrArg (fun z => mag (n z)) ?_
    funext a
    refine Fin.ext ?_
    fin_cases a
    · show (q 0).val = 8 * ((4 * ((q 0).val / 8) + (q 1).val % 512 / 128) / 4 % 16) + (q 0).val % 8
      omega
    · show (q 1).val = 512 * ((q 1).val / 512) + (128 * ((4 * ((q 0).val / 8) + (q 1).val % 512 / 128) % 4) + (q 1).val % 128)
      omega
end Cert.Eq
-- ==== Proof.Eq.Power.lean ====
/- Powers of two as words, and the search for the largest one below a number. -/
module

public import proofs.«01_k».proof.Proof.Run.Whole
public import Idealize.ShloMosaic.Lib.SortNet.Extract
public import Idealize.ShloMosaic.Lib.Pointwise

@[expose] public section

set_option maxRecDepth 16384

noncomputable section

namespace Cert.Eq

open Idealize.ShloMosaic
open Cert.KernelIdeal.Run (colP rowP wP paste2 paste3)

/-- The word whose exponent field is `k`. -/
abbrev fieldWord (k : ℕ) : BitVec 32 := IntOp.shli ArithUnit.vector (BitVec.ofNat 32 k) 23#32

/-- Its three fields: no sign, the exponent, no fraction. -/
theorem fields : ∀ k : Fin 256, ((fieldWord k.val).extractLsb' 31 1 == 1#1) = false
    ∧ ((fieldWord k.val).extractLsb' 23 8).toNat = k.val ∧ ((fieldWord k.val).extractLsb' 0 23).toNat = 0 := by decide +kernel

theorem scaled_zero (z : ℤ) : (1 : ℝ) * ((0 : ℕ) : ℝ) * (2 : ℝ) ^ z = 0 := by norm_num
theorem scaled_pow (k : ℤ) : (1 : ℝ) * ((8388608 + 0 : ℕ) : ℝ) * (2 : ℝ) ^ (k - (2 ^ 7 - 1) - ((23 : ℕ) : ℤ)) = (2 : ℝ) ^ (k - 127) := by
  have e : k - (2 ^ 7 - 1) - ((23 : ℕ) : ℤ) = (k - 127) - 23 := by norm_num
  rw [e, zpow_sub₀ (by norm_num : (2 : ℝ) ≠ 0), one_mul]
  have h : ((8388608 + 0 : ℕ) : ℝ) = (2 : ℝ) ^ (23 : ℤ) := by norm_num
  rw [h, mul_div_cancel₀]
  exact (zpow_pos (by norm_num : (0 : ℝ) < 2) _).ne'

/-- It denotes the power of two of its field: zero at 0, infinity at 255. -/
theorem ofBits_field (k : Fin 256) : Ideal.ofBits .f32 (fieldWord k.val)
    = if k.val = 255 then ⊤ else if k.val = 0 then 0 else (((2 : ℝ) ^ ((k.val : ℤ) - 127) : ℝ) : EReal) := by
  obtain ⟨h1, h2, h3⟩ := fields k
  show Ideal.ieee 8 23 _ = _
  unfold Ideal.ieee
  simp only [Nat.reduceAdd, h1, h2, h3, Nat.reducePow, Nat.reduceSub, if_true, Bool.false_eq_true, if_false]
  split
  · rfl
  split
  · exact congrArg (fun r : ℝ => (r : EReal)) (scaled_zero _)
  · exact congrArg (fun r : ℝ => (r : EReal)) (scaled_pow _)

/-- A power of two of a proper field. -/
theorem ofBits_pow {k : ℕ} (h1 : 1 ≤ k) (h2 : k ≤ 254) : Ideal.ofBits .f32 (fieldWord k) = (((2 : ℝ) ^ ((k : ℤ) - 127) : ℝ) : EReal) := by
  have := ofBits_field ⟨k, by omega⟩
  rw [if_neg (by show k ≠ 255; omega), if_neg (by show k ≠ 0; omega)] at this
  exact this

/-- Fields order as their powers do. -/
theorem pow_le {m n : ℤ} (h : m ≤ n) : (2 : ℝ) ^ m ≤ (2 : ℝ) ^ n := zpow_le_zpow_right₀ (by norm_num) h

theorem toInt_small : ∀ k : Fin 256, (BitVec.ofNat 32 k.val).toInt = k.val := by decide +kernel

/-- The largest exponent field whose power of two is at most `a`, as the kernel finds it. -/
theorem field_spec (a : ℝ) (h0 : 0 ≤ a) (hb : a < (2 : ℝ) ^ (125 : ℤ)) (W : BitVec 32)
    (hW : W = Finset.univ.fold IntOp.maxsi 2147483648#32 (fun k : Fin 256 =>
      if Ideal.ofBits .f32 (fieldWord k.val) ≤ (a : EReal) then BitVec.ofNat 32 k.val else 0#32)) :
    (a < (2 : ℝ) ^ (-126 : ℤ) ∧ W = 0#32) ∨
      ∃ k : ℕ, 1 ≤ k ∧ k ≤ 251 ∧ W = BitVec.ofNat 32 k ∧ (2 : ℝ) ^ ((k : ℤ) - 127) ≤ a ∧ a < (2 : ℝ) ^ ((k : ℤ) - 126) := by
  obtain ⟨_, hall, hor⟩ := Idealize.ShloMosaic.SortNet.fold_maxsi_spec (fun k : Fin 256 =>
      if Ideal.ofBits .f32 (fieldWord k.val) ≤ (a : EReal) then BitVec.ofNat 32 k.val else 0#32) Finset.univ 2147483648#32
  rw [← hW] at hall hor
  have hin : ∀ k : Fin 256, k.val ≠ 0 → Ideal.ofBits .f32 (fieldWord k.val) ≤ (a : EReal) →
      k.val ≠ 255 ∧ (2 : ℝ) ^ ((k.val : ℤ) - 127) ≤ a := by
    intro k hk h
    rw [ofBits_field] at h
    by_cases h255 : k.val = 255
    · rw [if_pos h255] at h; exact absurd h (not_le.mpr (EReal.coe_lt_top a))
    · rw [if_neg h255, if_neg hk] at h; exact ⟨h255, EReal.coe_le_coe_iff.mp h⟩
  have hout : ∀ k : ℕ, 1 ≤ k → k ≤ 254 → (2 : ℝ) ^ ((k : ℤ) - 127) ≤ a → (k : ℤ) ≤ W.toInt := by
    intro k h1 h2 h
    have := hall ⟨k, by omega⟩ (Finset.mem_univ _)
    rw [if_pos (by rw [ofBits_pow h1 h2]; exact EReal.coe_le_coe_iff.mpr h), toInt_small] at this
    exact this
  have h00 : (0 : ℤ) ≤ W.toInt := by
    have := hall 0 (Finset.mem_univ _)
    refine le_trans ?_ this
    split <;> decide
  have hor' : ∃ i : Fin 256, W = if Ideal.ofBits .f32 (fieldWord i.val) ≤ (a : EReal) then BitVec.ofNat 32 i.val else 0#32 := by
    rcases hor with h | ⟨i, _, h⟩
    · rw [h] at h00; exact absurd h00 (by decide)
    · exact ⟨i, h⟩
  obtain ⟨i, hi⟩ := hor'
  by_cases hs : a < (2 : ℝ) ^ (-126 : ℤ)
  · refine Or.inl ⟨hs, ?_⟩
    rw [hi]
    by_cases hz : i.val = 0
    · rw [hz]; split <;> rfl
    · rw [if_neg fun h => ?_]
      have h2 := (hin i hz h).2
      exact absurd (lt_of_le_of_lt ((pow_le (by omega)).trans h2) hs) (lt_irrefl _)
  · refine Or.inr ?_
    have h1 : (1 : ℤ) ≤ W.toInt := hout 1 le_rfl (by norm_num) (not_lt.mp hs)
    have hz : i.val ≠ 0 := by
      intro hz
      rw [hz] at hi
      have : W = 0#32 := by rw [hi]; split <;> rfl
      rw [this] at h1; exact absurd h1 (by decide)
    have hle : Ideal.ofBits .f32 (fieldWord i.val) ≤ (a : EReal) := by
      by_contra h
      rw [if_neg h] at hi
      rw [hi] at h1; exact absurd h1 (by decide)
    rw [if_pos hle] at hi
    obtain ⟨h255, hp⟩ := hin i hz hle
    have hlt := i.isLt
    have h251 : i.val ≤ 251 := by
      by_contra hc
      exact absurd (lt_of_le_of_lt ((pow_le (by omega)).trans hp) hb) (lt_irrefl _)
    refine ⟨i.val, by omega, h251, hi, hp, ?_⟩
    by_contra hc
    have := hout (i.val + 1) (by omega) (by omega) (by
      have e : (((i.val + 1 : ℕ) : ℤ) - 127) = (i.val : ℤ) - 126 := by omega
      rw [e]; exact not_lt.mp hc)
    rw [hi, toInt_small] at this
    omega

/-! ## The two powers the kernel makes of the field, and the exponent the reference makes of the number -/

/-- The field with its two extreme values replaced. -/
abbrev sane (W : BitVec 32) : BitVec 32 :=
  Scalar.select (IntOp.ori (IntOp.cmpi CmpIPredicate.eq W 0#32) (IntOp.cmpi CmpIPredicate.eq W 255#32)) (126#32) W

theorem sane_zero : sane 0#32 = 126#32 := by decide
theorem sane_of : ∀ k : Fin 252, 1 ≤ k.val → sane (BitVec.ofNat 32 k.val) = BitVec.ofNat 32 k.val := by decide +kernel
theorem scale_word : ∀ k : Fin 252, IntOp.addi (BitVec.ofNat 32 k.val) 1#32 = BitVec.ofNat 32 (k.val + 1) := by decide +kernel
theorem inv_word : ∀ k : Fin 252, IntOp.subi 253#32 (BitVec.ofNat 32 k.val) = BitVec.ofNat 32 (253 - k.val) := by decide +kernel

/-- The exponent of a number: that of the least power of two above it, 0 for the smallest numbers. -/
def expo (a : EReal) : EReal :=
  if a < Ideal.ofBits .f32 8388608#32 then 0
  else Ideal.liftRound Int.floor (Ideal.div (Ideal.log a) (Ideal.log (Ideal.ofBits .f32 1073741824#32))) + 1

theorem ofBits_min : Ideal.ofBits .f32 8388608#32 = (((2 : ℝ) ^ (-126 : ℤ) : ℝ) : EReal) := ofBits_pow (k := 1) le_rfl (by norm_num)
theorem ofBits_two : Ideal.ofBits .f32 1073741824#32 = ((2 : ℝ) : EReal) := by
  have := ofBits_pow (k := 128) (by norm_num) (by norm_num)
  norm_num at this
  exact this

theorem expo_small {a : ℝ} (h : a < (2 : ℝ) ^ (-126 : ℤ)) : expo (a : EReal) = ((0 : ℤ) : ℝ) := by
  unfold expo
  rw [ofBits_min, if_pos (EReal.coe_lt_coe_iff.mpr h)]
  norm_num

theorem expo_of {a : ℝ} {n : ℤ} (hn : -126 ≤ n) (h1 : (2 : ℝ) ^ n ≤ a) (h2 : a < (2 : ℝ) ^ (n + 1)) : expo (a : EReal) = (((n + 1 : ℤ) : ℝ) : EReal) := by
  have hp : (0 : ℝ) < 2 ^ n := zpow_pos (by norm_num) n
  have ha : 0 < a := lt_of_lt_of_le hp h1
  unfold expo
  rw [ofBits_min, if_neg (by rw [EReal.coe_lt_coe_iff]; exact not_lt.mpr ((pow_le hn).trans h1)), ofBits_two, Ideal.log_coe, Ideal.log_coe,
    if_neg (not_le.mpr ha), if_neg (by norm_num)]
  have hl : Real.log 2 ≠ 0 := ne_of_gt (Real.log_pos (by norm_num))
  have hd : Ideal.div (Real.log a : EReal) (Real.log 2 : EReal) = ((Real.log a / Real.log 2 : ℝ) : EReal) := by
    unfold Ideal.div
    rw [if_neg (by rw [← EReal.coe_zero, EReal.coe_eq_coe_iff]; exact hl), ← EReal.coe_inv, ← EReal.coe_mul, div_eq_mul_inv]
  rw [hd]
  have hf : ⌊Real.log a / Real.log 2⌋ = n := by
    rw [Int.floor_eq_iff]
    have hl0 : 0 < Real.log 2 := Real.log_pos (by norm_num)
    constructor
    · rw [le_div_iff₀ hl0, ← Real.log_zpow]; exact Real.log_le_log hp h1
    · rw [div_lt_iff₀ hl0]
      have e : ((n : ℝ) + 1) = ((n + 1 : ℤ) : ℝ) := by push_cast; rfl
      rw [e, ← Real.log_zpow]
      exact Real.log_lt_log ha h2
  show (((⌊Real.log a / Real.log 2⌋ : ℤ) : ℝ) : EReal) + 1 = _
  rw [hf]
  push_cast
  rfl

theorem exp2_int (n : ℤ) : Ideal.exp2 (((n : ℤ) : ℝ) : EReal) = (((2 : ℝ) ^ n : ℝ) : EReal) := by
  rw [Ideal.exp2_coe]
  congr 1
  exact Real.rpow_intCast 2 n

/-- The kernel's two powers are the reference's. -/
theorem scales (a : ℝ) (h0 : 0 ≤ a) (hb : a < (2 : ℝ) ^ (125 : ℤ)) (W : BitVec 32)
    (hW : W = Finset.univ.fold IntOp.maxsi 2147483648#32 (fun k : Fin 256 =>
      if Ideal.ofBits .f32 (fieldWord k.val) ≤ (a : EReal) then BitVec.ofNat 32 k.val else 0#32)) :
    Ideal.ofBits .f32 (IntOp.shli ArithUnit.vector (IntOp.addi (sane W) 1#32) 23#32) = Ideal.exp2 (expo a)
      ∧ Ideal.ofBits .f32 (IntOp.shli ArithUnit.vector (IntOp.subi 253#32 (sane W)) 23#32) = Ideal.exp2 (0 - expo a) := by
  have key : ∃ n : ℕ, 1 ≤ n ∧ n ≤ 251 ∧ sane W = BitVec.ofNat 32 n ∧ expo a = ((((n : ℤ) - 126 : ℤ) : ℝ) : EReal) := by
    rcases field_spec a h0 hb W hW with ⟨hs, h⟩ | ⟨k, h1, h2, h, hl, hu⟩
    · exact ⟨126, by norm_num, by norm_num, by rw [h]; exact sane_zero, by rw [expo_small hs]; norm_num⟩
    · refine ⟨k, h1, h2, by rw [h]; exact sane_of ⟨k, by omega⟩ h1, ?_⟩
      rw [expo_of (n := (k : ℤ) - 127) (by omega) hl (by rw [show (k : ℤ) - 127 + 1 = (k : ℤ) - 126 by omega]; exact hu)]
      rw [show (k : ℤ) - 127 + 1 = (k : ℤ) - 126 by omega]
  obtain ⟨n, h1, h2, hs, he⟩ := key
  rw [hs, he, scale_word ⟨n, by omega⟩, inv_word ⟨n, by omega⟩]
  constructor
  · rw [exp2_int]
    refine (ofBits_pow (k := n + 1) (by omega) (by omega)).trans ?_
    rw [show ((n + 1 : ℕ) : ℤ) - 127 = (n : ℤ) - 126 by omega]
  · have hneg : (0 : EReal) - ((((n : ℤ) - 126 : ℤ) : ℝ) : EReal) = (((126 - (n : ℤ) : ℤ) : ℝ) : EReal) := by
      rw [← EReal.coe_zero, ← EReal.coe_sub]
      congr 1
      push_cast
      linarith
    rw [hneg, exp2_int]
    refine (ofBits_pow (k := 253 - n) (by omega) (by omega)).trans ?_
    rw [show ((253 - n : ℕ) : ℤ) - 127 = 126 - (n : ℤ) by omega]

end Cert.Eq
-- ==== Proof.Eq.Scale.lean ====
/- Under a finite history the kernel's scales and their inverses are the reference's. -/
module

public import proofs.«01_k».proof.Proof.Eq.Power
public import proofs.«01_k».proof.Proof.Gen.ReferenceIdeal.Skeleton

@[expose] public section

set_option maxRecDepth 16384

noncomputable section

namespace Cert.Eq

open Idealize.ShloMosaic
open Cert.KernelIdeal.Run (colP rowP wP paste2 paste3)

/-- Every entry of the history is a real number of magnitude below 2 ^ 128. -/
def Finite (h : FVec Ideal Cert.KernelIdeal.S3x16 .f32) : Prop := ∀ i, ∃ r : ℝ, h i = (r : EReal) ∧ |r| < (2 : ℝ) ^ (128 : ℤ)

/-- The absolute value of a real. -/
theorem absf_coe (r : ℝ) : FloatOps.absf (F := Ideal) (φ := .f32) (r : EReal) = ((|r| : ℝ) : EReal) := by
  show max (r : EReal) (-(r : EReal)) = _
  rw [← EReal.coe_neg]
  exact (Monotone.map_max EReal.coe_strictMono.monotone).symm

theorem factor_fields : ((991054117#32 : BitVec 32).extractLsb' 31 1 == 1#1) = false
    ∧ ((991054117#32 : BitVec 32).extractLsb' 23 8).toNat = 118 ∧ ((991054117#32 : BitVec 32).extractLsb' 0 23).toNat = 1198373 := by decide +kernel
theorem factor_val : (1 : ℝ) * ((8388608 + 1198373 : ℕ) : ℝ) * (2 : ℝ) ^ (((118 : ℕ) : ℤ) - (2 ^ 7 - 1) - ((23 : ℕ) : ℤ)) < (2 : ℝ) ^ (-8 : ℤ)
    ∧ 0 ≤ (1 : ℝ) * ((8388608 + 1198373 : ℕ) : ℝ) * (2 : ℝ) ^ (((118 : ℕ) : ℤ) - (2 ^ 7 - 1) - ((23 : ℕ) : ℤ)) := by
  constructor
  · norm_num [zpow_neg]
  · positivity

/-- The factor the history's maximum is scaled by is a small positive real. -/
theorem factor : ∃ f : ℝ, Ideal.ofBits .f32 991054117#32 = (f : EReal) ∧ 0 ≤ f ∧ f < (2 : ℝ) ^ (-8 : ℤ) := by
  obtain ⟨h1, h2, h3⟩ := factor_fields
  refine ⟨_, ?_, factor_val.2, factor_val.1⟩
  rw [show Ideal.ofBits .f32 991054117#32 = Ideal.ieee 8 23 (991054117#32 : BitVec 32) from rfl]
  unfold Ideal.ieee
  simp only [Nat.reduceAdd, h1, h2, h3, Nat.reducePow, Nat.reduceSub, Nat.reduceEqDiff, OfNat.ofNat_ne_zero, Bool.false_eq_true, if_false]

/-- The maximum of finitely many bounded reals is one of them. -/
theorem fold_max_real {n : ℕ} (hn : 0 < n) (g : Fin n → EReal) (B : ℝ) (hg : ∀ i, ∃ r : ℝ, g i = (r : EReal) ∧ |r| < B) (b : EReal) (hb : b = ⊥) :
    ∃ r : ℝ, Finset.fold max b g Finset.univ = (r : EReal) ∧ |r| < B := by
  subst hb
  have hs : Finset.fold max (⊥ : EReal) g Finset.univ = Finset.univ.sup g := rfl
  obtain ⟨i, _, hi⟩ := Finset.exists_mem_eq_sup Finset.univ ⟨(⟨0, hn⟩ : Fin n), Finset.mem_univ _⟩ g
  rw [hs, hi]
  exact hg i

theorem ofBits_negInf : Ideal.ofBits .f32 4286578688#32 = ⊥ := by
  have h : ((4286578688#32 : BitVec 32).extractLsb' 31 1 == 1#1) = true
    ∧ ((4286578688#32 : BitVec 32).extractLsb' 23 8).toNat = 255 ∧ ((4286578688#32 : BitVec 32).extractLsb' 0 23).toNat = 0 := by decide +kernel
  rw [show Ideal.ofBits .f32 4286578688#32 = Ideal.ieee 8 23 (4286578688#32 : BitVec 32) from rfl]
  unfold Ideal.ieee
  simp only [Nat.reduceAdd, h.1, h.2.1, h.2.2, Nat.reducePow, Nat.reduceSub, if_true]

/-- The number whose exponent gives a layer's scale. -/
def quot (h : FVec Ideal Cert.KernelIdeal.S3x16 .f32) (l : Fin 3) : EReal :=
  FloatOps.absf (F := Ideal) (φ := .f32) (Finset.fold max (Ideal.ofBits .f32 4286578688#32) (fun x : Fin 16 => h (ix2 l x)) Finset.univ * Ideal.ofBits .f32 991054117#32)

theorem quot_real (h : FVec Ideal Cert.KernelIdeal.S3x16 .f32) (hf : Finite h) (l : Fin 3) :
    ∃ a : ℝ, quot h l = (a : EReal) ∧ 0 ≤ a ∧ a < (2 : ℝ) ^ (125 : ℤ) := by
  obtain ⟨r, hr, hrb⟩ := fold_max_real (by norm_num : 0 < 16) (fun x : Fin 16 => h (ix2 l x)) _ (fun i => hf _) _ ofBits_negInf
  obtain ⟨f, hfe, hf0, hf1⟩ := factor
  refine ⟨|r * f|, ?_, abs_nonneg _, ?_⟩
  · unfold quot
    rw [hr, hfe, ← EReal.coe_mul, absf_coe]
  · rw [abs_mul, abs_of_nonneg hf0]
    have h8 : (2 : ℝ) ^ (-8 : ℤ) ≤ 1 := by norm_num [zpow_neg]
    have : |r| * f ≤ |r| * (2 : ℝ) ^ (-8 : ℤ) := mul_le_mul_of_nonneg_left hf1.le (abs_nonneg r)
    have h2 : |r| * (2 : ℝ) ^ (-8 : ℤ) < (2 : ℝ) ^ (128 : ℤ) * (2 : ℝ) ^ (-8 : ℤ) := mul_lt_mul_of_pos_right hrb (zpow_pos (by norm_num) _)
    rw [← zpow_add₀ (by norm_num : (2 : ℝ) ≠ 0)] at h2
    exact lt_of_le_of_lt this (lt_of_lt_of_le h2 (pow_le (by norm_num)))

/-- What the kernel finds for a layer's field. -/
theorem pay260_at (h : FVec Ideal Cert.KernelIdeal.S3x16 .f32) (l : Fin 3) :
    (Cert.KernelIdeal.Gen.k0_pay260 (F := Ideal) h) (ix2 l 0) = Finset.univ.fold IntOp.maxsi 2147483648#32 (fun k : Fin 256 =>
      if Ideal.ofBits .f32 (fieldWord k.val) ≤ quot h l then BitVec.ofNat 32 k.val else 0#32) := by
  pointwise [Cert.KernelIdeal.Gen.k0_pay260]
  rfl

theorem sV_at (h : FVec Ideal Cert.KernelIdeal.S3x16 .f32) (l : Fin 3) : Cert.KernelIdeal.Run.sV h (ix2 l 0)
    = Ideal.ofBits .f32 (IntOp.shli ArithUnit.vector (IntOp.addi (sane ((Cert.KernelIdeal.Gen.k0_pay260 (F := Ideal) h) (ix2 l 0))) 1#32) 23#32) := by
  unfold Cert.KernelIdeal.Run.sV
  generalize Cert.KernelIdeal.Gen.k0_pay260 (F := Ideal) h = W
  pointwise [Cert.KernelIdeal.Gen.k0_pay263, Cert.KernelIdeal.Gen.k0_pay262, Cert.KernelIdeal.Gen.k0_pay261]

theorem iV_at (h : FVec Ideal Cert.KernelIdeal.S3x16 .f32) (l : Fin 3) : Cert.KernelIdeal.Run.iV h (ix2 l 0)
    = Ideal.ofBits .f32 (IntOp.shli ArithUnit.vector (IntOp.subi 253#32 (sane ((Cert.KernelIdeal.Gen.k0_pay260 (F := Ideal) h) (ix2 l 0)))) 23#32) := by
  unfold Cert.KernelIdeal.Run.iV
  generalize Cert.KernelIdeal.Gen.k0_pay260 (F := Ideal) h = W
  pointwise [Cert.KernelIdeal.Gen.k0_pay264, Cert.KernelIdeal.Gen.k0_pay262, Cert.KernelIdeal.Gen.k0_pay261]

theorem ref_scale_at (h : FVec Ideal Cert.ReferenceIdeal.S3x16 .f32) (l : Fin 3) :
    (Cert.ReferenceIdeal.Gen.k0_pay3 (F := Ideal) h) (ix2 l 0) = Ideal.exp2 (expo (quot h l)) := by
  pointwise [Cert.ReferenceIdeal.Gen.k0_pay3, Cert.ReferenceIdeal.Gen.k0_pay2]
  rfl
theorem ref_inv_at (h : FVec Ideal Cert.ReferenceIdeal.S3x16 .f32) (l : Fin 3) :
    (Cert.ReferenceIdeal.Gen.k0_pay4 (F := Ideal) h) (ix2 l 0) = Ideal.exp2 (0 - expo (quot h l)) := by
  pointwise [Cert.ReferenceIdeal.Gen.k0_pay4, Cert.ReferenceIdeal.Gen.k0_pay2]
  rfl

theorem both (h : FVec Ideal Cert.KernelIdeal.S3x16 .f32) (hf : Finite h) (l : Fin 3) :
    Cert.KernelIdeal.Run.sV h (ix2 l 0) = (Cert.ReferenceIdeal.Gen.k0_pay3 (F := Ideal) h) (ix2 l 0)
      ∧ Cert.KernelIdeal.Run.iV h (ix2 l 0) = (Cert.ReferenceIdeal.Gen.k0_pay4 (F := Ideal) h) (ix2 l 0) := by
  obtain ⟨a, ha, h0, hb⟩ := quot_real h hf l
  have := scales a h0 hb ((Cert.KernelIdeal.Gen.k0_pay260 (F := Ideal) h) (ix2 l 0)) (by rw [pay260_at, ha])
  rw [sV_at, iV_at, ref_scale_at, ref_inv_at, ha]
  exact this

/-- The kernel's scales are the reference's. -/
theorem scale_eq (h : FVec Ideal Cert.KernelIdeal.S3x16 .f32) (hf : Finite h) : Cert.KernelIdeal.Run.sV h = Cert.ReferenceIdeal.Gen.k0_pay3 (F := Ideal) h := by
  funext j
  obtain ⟨a, b, rfl⟩ : ∃ (a : Fin 3) (b : Fin 1), j = ix2 a b := ⟨j 0, j 1, eq_ix2 j⟩
  obtain rfl : b = 0 := Subsingleton.elim _ _
  exact (both h hf a).1

/-- And so are their inverses. -/
theorem inv_eq (h : FVec Ideal Cert.KernelIdeal.S3x16 .f32) (hf : Finite h) : Cert.KernelIdeal.Run.iV h = Cert.ReferenceIdeal.Gen.k0_pay4 (F := Ideal) h := by
  funext j
  obtain ⟨a, b, rfl⟩ : ∃ (a : Fin 3) (b : Fin 1), j = ix2 a b := ⟨j 0, j 1, eq_ix2 j⟩
  obtain rfl : b = 0 := Subsingleton.elim _ _
  exact (both h hf a).2

end Cert.Eq
-- ==== Proof.Eq.History.lean ====
/- The new history: the layers' maxima in front, the old columns after. -/
module

public import proofs.«01_k».proof.Proof.Eq.Layers
public import proofs.«01_k».proof.Proof.Eq.Max
public import proofs.«01_k».proof.Proof.Eq.Scale

@[expose] public section

set_option maxRecDepth 16384

noncomputable section

namespace Cert.Eq

open Idealize.ShloMosaic
open Cert.KernelIdeal.Run (colP rowP wP paste2 paste3)

open Cert.KernelIdeal (S8x128 S1x8x128 S1 S128x512 S128x3584 S1x128x3584 S3x16)

/-- A reduction by maximum to one value bounds every element, and is the least to do so. -/
theorem red_max {d : Fin 3 → Nat} (v : FVec Ideal ⟨3, d⟩ .f32) (h : (⟨3, d⟩ : Shape).Reduces [1, 2] S1) (hk) (hz) (j : S1.Idx) :
    (∀ i, (v i : EReal) ≤ multiReduction (F := Ideal) .maximumf [1, 2] S1 v 0xFF800000#32 h hk hz j)
      ∧ ∀ C : EReal, (∀ i, (v i : EReal) ≤ C) → multiReduction (F := Ideal) .maximumf [1, 2] S1 v 0xFF800000#32 h hk hz j ≤ C := by
  have hsub : ∀ a b : S1.Idx, a = b := fun a b => by
    funext d
    fin_cases d
    exact Subsingleton.elim (α := Fin 1) _ _
  have e : multiReduction (F := Ideal) .maximumf [1, 2] S1 v 0xFF800000#32 h hk hz j = Finset.univ.sup (fun i => (v i : EReal)) := by
    rw [multiReduction_maximumf_eq_fold, Finset.filter_true_of_mem fun i _ => hsub _ _]
    show Finset.fold max (Ideal.ofBits .f32 4286578688#32) v Finset.univ = _
    rw [ofBits_negInf]
    rfl
  rw [e]
  exact ⟨fun i => Finset.le_sup (f := fun i => (v i : EReal)) (Finset.mem_univ i), fun C hC => Finset.sup_le fun i _ => hC i⟩

/-- The maximum over the lanes of a block of maxima. -/
def lanes (T : FVec Ideal S1x8x128 .f32) : EReal := multiReduction (F := Ideal) FKind.maximumf [1, 2] S1 T (4286578688#32) Cert.KernelIdeal.Gen.reduces_S1x8x128_S1 (.inl rfl) rfl (ix1 0)

/-- The maximum of a whole array's magnitudes. -/
def whole (n : FVec Ideal S128x3584 .f32) : EReal :=
  multiReduction (F := Ideal) FKind.maximumf [1, 2] S1 (shapeCast S1x128x3584 (absf n) Cert.ReferenceIdeal.Gen.shapeCasts_S128x3584_S1x128x3584) (4286578688#32) Cert.ReferenceIdeal.Gen.reduces_S1x128x3584_S1 (.inl rfl) rfl (ix1 0)

/-- The kernel's new history is the reference's if the maxima are. -/
theorem history_eq (h : FVec Ideal S3x16 .f32) (T0 T1 T2 : FVec Ideal S1x8x128 .f32) (A B C : FVec Ideal Cert.ReferenceIdeal.S1x1 .f32)
    (h0 : lanes T0 = A (ix2 0 0)) (h1 : lanes (shapeCast S1x8x128 (shapeCast S8x128 T1 Cert.KernelIdeal.Gen.shapeCasts_S1x8x128_S8x128) Cert.KernelIdeal.Gen.shapeCasts_S8x128_S1x8x128) = B (ix2 0 0))
    (h2 : lanes (shapeCast S1x8x128 (shapeCast S8x128 T2 Cert.KernelIdeal.Gen.shapeCasts_S1x8x128_S8x128) Cert.KernelIdeal.Gen.shapeCasts_S8x128_S1x8x128) = C (ix2 0 0)) :
    Cert.KernelIdeal.Gen.k0_pay287 (iota Kind.tc S3x16 32 [1] Cert.KernelIdeal.Gen.iota_S3x16_d1_w32) (iota Kind.tc S3x16 32 [0] Cert.KernelIdeal.Gen.iota_S3x16_d0_w32) Cert.KernelIdeal.Gen.k0_pay284 Cert.KernelIdeal.Gen.k0_pay285
      T0 T1 T2 h = Cert.ReferenceIdeal.Gen.k0_pay1 A B C (View.ld h Cert.ReferenceIdeal.Gen.r0_9) := by
  unfold lanes at h0 h1 h2
  funext j
  obtain ⟨l, c, rfl⟩ : ∃ (l : Fin 3) (c : Fin 16), j = ix2 l c := ⟨j 0, j 1, eq_ix2 j⟩
  unfold Cert.KernelIdeal.Gen.k0_pay287 Cert.ReferenceIdeal.Gen.k0_pay1
  dsimp only
  generalize multiReduction FKind.maximumf [1, 2] S1 (shapeCast S1x8x128 (shapeCast S8x128 T2 Cert.KernelIdeal.Gen.shapeCasts_S1x8x128_S8x128) Cert.KernelIdeal.Gen.shapeCasts_S8x128_S1x8x128) (4286578688#32) Cert.KernelIdeal.Gen.reduces_S1x8x128_S1 (.inl rfl) rfl = r2 at h2 ⊢
  generalize multiReduction FKind.maximumf [1, 2] S1 (shapeCast S1x8x128 (shapeCast S8x128 T1 Cert.KernelIdeal.Gen.shapeCasts_S1x8x128_S8x128) Cert.KernelIdeal.Gen.shapeCasts_S8x128_S1x8x128) (4286578688#32) Cert.KernelIdeal.Gen.reduces_S1x8x128_S1 (.inl rfl) rfl = r1 at h1 ⊢
  generalize multiReduction FKind.maximumf [1, 2] S1 T0 (4286578688#32) Cert.KernelIdeal.Gen.reduces_S1x8x128_S1 (.inl rfl) rfl = r0 at h0 ⊢
  pointwise [Cert.KernelIdeal.Gen.k0_pay284, Cert.KernelIdeal.Gen.k0_pay285]
  fin_cases l <;> fin_cases c <;> first | exact h0 | exact h1 | exact h2 | rfl

/-- The maximum over lanes, as a least upper bound. -/
theorem lanes_lub (M : FVec Ideal S8x128 .f32) (a b c) :
    (∀ p, (M p : EReal) ≤ lanes (shapeCast S1x8x128 (shapeCast S8x128 (shapeCast S1x8x128 M a) b) c))
      ∧ ∀ C : EReal, (∀ p, (M p : EReal) ≤ C) → lanes (shapeCast S1x8x128 (shapeCast S8x128 (shapeCast S1x8x128 M a) b) c) ≤ C := by
  have e : ∀ i : S1x8x128.Idx, shapeCast S1x8x128 (shapeCast S8x128 (shapeCast S1x8x128 M a) b) c i = M (ix2 (i 1) (i 2)) := by
    intro i
    obtain ⟨p, q, r, rfl⟩ : ∃ (p : Fin 1) (q : Fin 8) (r : Fin 128), i = ix3 p q r := ⟨i 0, i 1, i 2, eq_ix3 i⟩
    pointwise []
    try rfl
  obtain ⟨h1, h2⟩ := red_max (shapeCast S1x8x128 (shapeCast S8x128 (shapeCast S1x8x128 M a) b) c) Cert.KernelIdeal.Gen.reduces_S1x8x128_S1 (.inl rfl) rfl (ix1 0)
  refine ⟨fun p => ?_, fun C hC => h2 C fun i => by rw [e]; exact hC _⟩
  refine le_trans (le_of_eq ?_) (h1 (ix3 0 (p 0) (p 1)))
  rw [e]
  exact congrArg M (eq_ix2 p)

/-- The maximum over the whole array, as a least upper bound. -/
theorem whole_lub (n : FVec Ideal S128x3584 .f32) : (∀ p, mag (n p) ≤ whole n) ∧ ∀ C : EReal, (∀ p, mag (n p) ≤ C) → whole n ≤ C := by
  have e : ∀ i : S1x128x3584.Idx, (shapeCast S1x128x3584 (absf n) Cert.ReferenceIdeal.Gen.shapeCasts_S128x3584_S1x128x3584 : FVec Ideal S1x128x3584 .f32) i = mag (n (ix2 (i 1) (i 2))) := by
    intro i
    obtain ⟨p, q, r, rfl⟩ : ∃ (p : Fin 1) (q : Fin 128) (r : Fin 3584), i = ix3 p q r := ⟨i 0, i 1, i 2, eq_ix3 i⟩
    pointwise []
    try rfl
  obtain ⟨h1, h2⟩ := red_max (shapeCast S1x128x3584 (absf n) Cert.ReferenceIdeal.Gen.shapeCasts_S128x3584_S1x128x3584) Cert.ReferenceIdeal.Gen.reduces_S1x128x3584_S1 (.inl rfl) rfl (ix1 0)
  refine ⟨fun p => ?_, fun C hC => h2 C fun i => by rw [e]; exact hC _⟩
  refine le_trans (le_of_eq ?_) (h1 (ix3 0 (p 0) (p 1)))
  rw [e]
  exact congrArg (fun z => mag (n z)) (eq_ix2 p)

/-- The lanes of the running maximum over an array's panels have the whole array's maximum. -/
theorem lanes_amax (init : FVec Ideal S8x128 .f32) (hi : ∀ p, init p = (0 : EReal)) (n : FVec Ideal S128x3584 .f32) (v : Fin 7 → FVec Ideal Cert.KernelIdeal.S128x512 .f32)
    (hv : ∀ k, v k = colP n k) (a b c) : lanes (shapeCast S1x8x128 (shapeCast S8x128 (shapeCast S1x8x128 (Cert.KernelIdeal.Run.amaxUpTo init v 7) a) b) c) = whole n := by
  obtain rfl : v = colP n := funext hv
  exact amax_sup init hi n _ (whole_lub n).1 (whole_lub n).2 _ (lanes_lub _ a b c).1 (lanes_lub _ a b c).2
end Cert.Eq
-- ==== Proof.Eq.Results.lean ====
/- The eight results of the kernel are those of the reference. -/
module

public import proofs.«01_k».proof.Proof.Eq.History

@[expose] public section

set_option maxRecDepth 16384

noncomputable section

namespace Cert.Eq

open Idealize.ShloMosaic
open Cert.KernelIdeal.Run (colP rowP wP paste2 paste3)

open Cert.KernelIdeal (S128x3584 S3x1 S3x3584x3584 S3x3584 S3x16 S1x1 S1x128x3584)
open Cert.KernelIdeal.Run (R0 R1 R2 R3 R4 R5 R6 N2 N3 N4 M0 M1 M2 newHist codes0 codes1 codes2)
open Cert.ReferenceIdeal.Gen

variable (x : FVec Ideal S128x3584 .bf16) (w : FVec Ideal S3x3584x3584 .fp8e4m3) (ws b : FVec Ideal S3x3584 .f32) (h : FVec Ideal S3x16 .f32)

theorem off0 : (![0, 0] : Fin 2 → Nat) = fun _ => 0 := by funext a; fin_cases a <;> rfl

theorem ld_h : (View.ld (Val := Elt Ideal) (e' := .f32) h r0_0 : Vec Ideal Cert.ReferenceIdeal.S3x16 .f32) = h := View.ld_unit_zero off0 _ _
theorem ld_x : (View.ld (Val := Elt Ideal) (e' := .bf16) x r0_1 : Vec Ideal Cert.ReferenceIdeal.S128x3584 .bf16) = x := View.ld_unit_zero off0 _ _

theorem pay20_eq : k0_pay20 (F := Ideal) x w ws b h = k0_pay3 (F := Ideal) h := by unfold k0_pay20; rw [ld_h]
theorem pay21_eq : k0_pay21 (F := Ideal) x w ws b h = k0_pay4 (F := Ideal) h := by unfold k0_pay21; rw [ld_h]
theorem pay22_eq : k0_pay22 (F := Ideal) x w ws b h = k0_pay5 (F := Ideal) x := by unfold k0_pay22; rw [ld_x]
theorem pay23_eq : k0_pay23 (F := Ideal) x w ws b h = k0_pay6 (F := Ideal) h x := by unfold k0_pay23; rw [ld_h, ld_x]

theorem out5 : out0_5 (F := Ideal) x w ws b h = k0_pay19 (F := Ideal) (k0_pay20 (F := Ideal) x w ws b h) (k0_pay21 (F := Ideal) x w ws b h) (k0_pay22 (F := Ideal) x w ws b h) (k0_pay24 (F := Ideal) x w ws b h) (k0_pay25 (F := Ideal) x w ws b h)
    (View.ld ws r0_6) (View.ld b r0_6) (View.ld w r0_7) (View.ld ws r0_8) (View.ld b r0_8) := View.canon_unit_zero off0 _ _
theorem out6 : out0_6 (F := Ideal) x w ws b h = k0_pay6 (F := Ideal) (View.ld h r0_0) (View.ld x r0_1) := View.canon_unit_zero off0 _ _
theorem out7 : out0_7 (F := Ideal) x w ws b h = k0_pay7 (F := Ideal) (View.ld h r0_0) := View.canon_unit_zero off0 _ _
theorem out8 : out0_8 (F := Ideal) x w ws b h = k0_pay11 (F := Ideal) (k0_pay20 (F := Ideal) x w ws b h) (k0_pay21 (F := Ideal) x w ws b h) (k0_pay22 (F := Ideal) x w ws b h) (k0_pay23 (F := Ideal) x w ws b h)
    (View.ld w r0_3) (View.ld ws r0_4) (View.ld b r0_4) := View.canon_unit_zero off0 _ _
theorem out9 : out0_9 (F := Ideal) x w ws b h = k0_pay12 (F := Ideal) (k0_pay20 (F := Ideal) x w ws b h) := View.canon_unit_zero off0 _ _
theorem out10 : out0_10 (F := Ideal) x w ws b h = k0_pay16 (F := Ideal) (k0_pay21 (F := Ideal) x w ws b h) (k0_pay22 (F := Ideal) x w ws b h) (k0_pay24 (F := Ideal) x w ws b h) (k0_pay25 (F := Ideal) x w ws b h) (View.ld ws r0_6) (View.ld b r0_6) :=
  View.canon_unit_zero off0 _ _
theorem out11 : out0_11 (F := Ideal) x w ws b h = k0_pay17 (F := Ideal) (k0_pay20 (F := Ideal) x w ws b h) := View.canon_unit_zero off0 _ _
theorem out12 : out0_12 (F := Ideal) x w ws b h = k0_pay1 (F := Ideal) (k0_pay9 (F := Ideal) (k0_pay8 (F := Ideal) (View.ld x r0_1)))
    (k0_pay13 (F := Ideal) (k0_pay20 (F := Ideal) x w ws b h) (k0_pay22 (F := Ideal) x w ws b h) (k0_pay23 (F := Ideal) x w ws b h) (View.ld w r0_3) (View.ld ws r0_4) (View.ld b r0_4))
    (k0_pay18 (F := Ideal) (k0_pay22 (F := Ideal) x w ws b h) (k0_pay24 (F := Ideal) x w ws b h) (k0_pay25 (F := Ideal) x w ws b h) (View.ld ws r0_6) (View.ld b r0_6)) (View.ld h r0_9) := View.canon_unit_zero off0 _ _

variable (hf : Finite h)
include hf

theorem R1_eq : R1 x h = out0_6 (F := Ideal) x w ws b h := by
  rw [out6, ld_h, ld_x]
  exact paste3_eq _ _ _ fun k p q => by rw [inv_eq h hf]; exact codes_first h x k p q

theorem R1_eq' : R1 x h = k0_pay23 (F := Ideal) x w ws b h := by
  rw [R1_eq x w ws b h hf, out6]; rfl

/-- The first layer. -/
theorem N2_eq (k : Fin 7) : N2 x w ws b h k = colP (k0_pay24 (F := Ideal) x w ws b h) k := by
  unfold N2 k0_pay24
  rw [scale_eq h hf, pay20_eq, pay22_eq]
  exact layer_first _ _ _ _ (R1_eq' x w ws b h hf) x w ws b k

theorem R3_eq : R3 x w ws b h = out0_8 (F := Ideal) x w ws b h := by
  rw [out8]
  refine paste3_eq _ _ _ fun k p q => ?_
  rw [inv_eq h hf, N2_eq x w ws b h hf, pay21_eq]
  exact codes_second _ _ _ _ _ _ _ k p q

/-- The second layer's result, whole. -/
abbrev second : FVec Ideal S128x3584 .f32 :=
  k0_pay15 (F := Ideal) (k0_pay22 (F := Ideal) x w ws b h) (k0_pay24 (F := Ideal) x w ws b h) (k0_pay25 (F := Ideal) x w ws b h) (View.ld ws r0_6) (View.ld b r0_6)

omit hf in
theorem second_def : second x w ws b h = k0_pay15 (F := Ideal) (k0_pay22 (F := Ideal) x w ws b h) (k0_pay24 (F := Ideal) x w ws b h) (k0_pay25 (F := Ideal) x w ws b h) (View.ld ws r0_6) (View.ld b r0_6) := rfl

theorem N3_eq (k : Fin 7) : N3 x w ws b h k = colP (second x w ws b h) k := by
  have hc := R3_eq x w ws b h hf
  rw [out8, pay22_eq] at hc
  unfold N3 second k0_pay25
  rw [scale_eq h hf, N2_eq x w ws b h hf, pay22_eq, ← pay20_eq x w ws b h]
  exact layer_second _ _ _ _ _ _ _ _ x w ws b _ hc k

theorem R5_eq : R5 x w ws b h = out0_10 (F := Ideal) x w ws b h := by
  rw [out10]
  refine paste3_eq _ _ _ fun k p q => ?_
  rw [inv_eq h hf, N3_eq x w ws b h hf, pay21_eq]
  exact codes_third _ _ _ _ _ _ k p q

theorem R0_eq : R0 x w ws b h = out0_5 (F := Ideal) x w ws b h := by
  have hc := R5_eq x w ws b h hf
  rw [out10, pay22_eq] at hc
  rw [out5]
  refine paste2_eq _ _ fun k => ?_
  unfold N4
  rw [scale_eq h hf, N3_eq x w ws b h hf, second, pay22_eq, ← pay20_eq x w ws b h]
  exact layer_third _ _ _ _ x w ws b _ _ _ _ hc k

theorem R2_eq : R2 h = out0_7 (F := Ideal) x w ws b h := by
  rw [out7, ld_h]
  have e := scale_eq h hf
  unfold Cert.KernelIdeal.Run.sV at e
  unfold R2 Cert.KernelIdeal.Gen.k0_pay265 k0_pay7
  rw [e]
  generalize k0_pay3 (F := Ideal) h = s
  funext j
  obtain ⟨p, q, rfl⟩ : ∃ (p : Fin 1) (q : Fin 1), j = ix2 p q := ⟨j 0, j 1, eq_ix2 j⟩
  pointwise []

theorem R4_eq : R4 h = out0_9 (F := Ideal) x w ws b h := by
  rw [out9, pay20_eq]
  have e := scale_eq h hf
  unfold Cert.KernelIdeal.Run.sV at e
  unfold R4 Cert.KernelIdeal.Gen.k0_pay266 k0_pay12
  rw [e]
  generalize k0_pay3 (F := Ideal) h = s
  funext j
  obtain ⟨p, q, rfl⟩ : ∃ (p : Fin 1) (q : Fin 1), j = ix2 p q := ⟨j 0, j 1, eq_ix2 j⟩
  pointwise []

theorem R6_eq : R6 h = out0_11 (F := Ideal) x w ws b h := by
  rw [out11, pay20_eq]
  have e := scale_eq h hf
  unfold Cert.KernelIdeal.Run.sV at e
  unfold R6 Cert.KernelIdeal.Gen.k0_pay267 k0_pay17
  rw [e]
  generalize k0_pay3 (F := Ideal) h = s
  funext j
  obtain ⟨p, q, rfl⟩ : ∃ (p : Fin 1) (q : Fin 1), j = ix2 p q := ⟨j 0, j 1, eq_ix2 j⟩
  pointwise []

omit hf in
/-- One value, spread over a 1 x 1 array. -/
theorem read1 (r : FVec Ideal Cert.ReferenceIdeal.S1 .f32) :
    (broadcast Cert.ReferenceIdeal.S1x1 (extractAt ![0, 0, 0] (shapeCast Cert.ReferenceIdeal.S1x1x1 r shapeCasts_S1_S1x1x1) inpos_S1x1x1_p0_0_0)) (ix2 0 0) = r (ix1 0) := by
  pointwise []

omit hf in
theorem top1 : k0_pay9 (F := Ideal) (k0_pay8 (F := Ideal) x) (ix2 0 0) = whole (k0_pay5 (F := Ideal) x) := by
  unfold k0_pay9 k0_pay8 whole
  exact read1 _

omit hf in
theorem top2 : k0_pay13 (F := Ideal) (k0_pay20 (F := Ideal) x w ws b h) (k0_pay22 (F := Ideal) x w ws b h) (k0_pay23 (F := Ideal) x w ws b h) (View.ld w r0_3) (View.ld ws r0_4) (View.ld b r0_4) (ix2 0 0)
    = whole (k0_pay24 (F := Ideal) x w ws b h) := by
  unfold k0_pay13 k0_pay24 whole
  exact read1 _

omit hf in
theorem top3 : k0_pay18 (F := Ideal) (k0_pay22 (F := Ideal) x w ws b h) (k0_pay24 (F := Ideal) x w ws b h) (k0_pay25 (F := Ideal) x w ws b h) (View.ld ws r0_6) (View.ld b r0_6) (ix2 0 0)
    = whole (second x w ws b h) := by
  unfold k0_pay18 second whole
  exact read1 _

omit hf in
theorem wide (k : Fin 7) : Cert.KernelIdeal.Gen.k0_pay1 (F := Ideal) (colP x k) = colP (k0_pay5 (F := Ideal) x) k := by
  funext j
  obtain ⟨p, q, rfl⟩ : ∃ (p : Fin 128) (q : Fin 512), j = ix2 p q := ⟨j 0, j 1, eq_ix2 j⟩
  unfold colP
  pointwise [Cert.KernelIdeal.Gen.k0_pay1, k0_pay5]

theorem newHist_eq : newHist x w ws b h = out0_12 (F := Ideal) x w ws b h := by
  rw [out12, ld_x]
  unfold newHist
  refine history_eq h _ _ _ _ _ _ ?_ ?_ ?_
  · refine (lanes_amax Cert.KernelIdeal.Gen.k0_pay268 (fun p => ?_) (k0_pay5 (F := Ideal) x) _ (fun k => ?_) _ _ _).trans ?_
    · exact Ideal.ofBits_zero_f32
    · exact wide x k
    · exact (top1 x).symm
  · refine (lanes_amax Cert.KernelIdeal.Gen.k0_pay274 (fun p => ?_) (k0_pay24 (F := Ideal) x w ws b h) _ (N2_eq x w ws b h hf) _ _ _).trans ?_
    · exact Ideal.ofBits_zero_f32
    · exact (top2 x w ws b h).symm
  · refine (lanes_amax Cert.KernelIdeal.Gen.k0_pay278 (fun p => ?_) (second x w ws b h) _ (N3_eq x w ws b h hf) _ _ _).trans ?_
    · exact Ideal.ofBits_zero_f32
    · exact (top3 x w ws b h).symm
end Cert.Eq
-- ==== Proof.Eq.Range.lean ====
/- The precondition says that every entry of the history is a real number of the format's range. -/
module

public import proofs.«01_k».proof.Defs
public import proofs.«01_k».proof.Proof.Eq.Scale
public import Idealize.ShloMosaic.Lib.ReduceAll
public import Idealize.ShloMosaic.Lib.Pointwise

@[expose] public section

set_option maxRecDepth 16384

noncomputable section

namespace Cert.Eq

open Idealize.ShloMosaic

theorem top_fields : ((2139095039#32 : BitVec 32).extractLsb' 31 1 == 1#1) = false ∧ ((2139095039#32 : BitVec 32).extractLsb' 23 8).toNat = 254
    ∧ ((2139095039#32 : BitVec 32).extractLsb' 0 23).toNat = 8388607 := by decide +kernel

theorem top_val : (1 : ℝ) * ((8388608 + 8388607 : ℕ) : ℝ) * (2 : ℝ) ^ (((254 : ℕ) : ℤ) - (2 ^ 7 - 1) - ((23 : ℕ) : ℤ)) < (2 : ℝ) ^ (128 : ℤ) := by
  norm_num

/-- The largest finite number of the format is a real below 2 ^ 128. -/
theorem top_real : ∃ f : ℝ, Ideal.ofBits .f32 2139095039#32 = (f : EReal) ∧ f < (2 : ℝ) ^ (128 : ℤ) := by
  obtain ⟨h1, h2, h3⟩ := top_fields
  refine ⟨_, ?_, top_val⟩
  rw [show Ideal.ofBits .f32 2139095039#32 = Ideal.ieee 8 23 (2139095039#32 : BitVec 32) from rfl]
  unfold Ideal.ieee
  simp only [Nat.reduceAdd, h1, h2, h3, Nat.reducePow, Nat.reduceSub, Nat.reduceEqDiff, OfNat.ofNat_ne_zero, Bool.false_eq_true, if_false]

/-- The side conditions the precondition's operations take. -/
theorem preFacts : Cert.Pre_finite_history.Facts := ⟨by decide, by decide, by decide⟩

attribute [local instance] preFacts

instance : Subsingleton Cert.Pre_finite_history.S_.Idx := ⟨fun a b => funext fun d => d.elim0⟩

/-- An extended real whose magnitude a real bounds is a real. -/
theorem real_of_le (x : EReal) (f : ℝ) (hx : max x (-x) ≤ (f : EReal)) (hf : f < (2 : ℝ) ^ (128 : ℤ)) : ∃ r : ℝ, x = (r : EReal) ∧ |r| < (2 : ℝ) ^ (128 : ℤ) := by
  induction x using EReal.rec with
  | bot => exact absurd (le_trans (le_max_right _ _) hx) (by rw [EReal.neg_bot]; exact not_le.mpr (EReal.coe_lt_top f))
  | top => exact absurd (le_trans (le_max_left _ _) hx) (not_le.mpr (EReal.coe_lt_top f))
  | coe r =>
    refine ⟨r, rfl, lt_of_le_of_lt ?_ hf⟩
    have e := absf_coe r
    rw [show FloatOps.absf (F := Ideal) (φ := .f32) (r : EReal) = max (r : EReal) (-(r : EReal)) from rfl] at e
    rw [e] at hx
    exact EReal.coe_le_coe_iff.mp hx

theorem finite_of_pre (a0 : FVec Ideal Cert.Pre_finite_history.S1x128x3584 .bf16) (a1 : FVec Ideal Cert.Pre_finite_history.S3x3584x3584 .fp8e4m3)
    (a2 a3 : FVec Ideal Cert.Pre_finite_history.S3x3584 .f32) (h : FVec Ideal Cert.Pre_finite_history.S3x16 .f32)
    (hp : Cert.Pre_finite_history.fn (F := Ideal) a0 a1 a2 a3 h = fun _ => 1#1) : Finite h := by
  intro i
  have e := Host.reduce_andi_all _ _ _ _ _ (congrFun hp (fun d => d.elim0)) i
  obtain ⟨p, q, rfl⟩ : ∃ (p : Fin 3) (q : Fin 16), i = ix2 p q := ⟨i 0, i 1, eq_ix2 i⟩
  pointwise [] at e
  obtain ⟨f, hf, hlt⟩ := top_real
  rw [hf] at e
  refine real_of_le _ f ?_ hlt
  by_contra hn
  rw [show decide (FloatOps.absf (F := Ideal) (φ := .f32) (h (ix2 p q)) ≤ (f : EReal)) = false from decide_eq_false hn] at e
  exact absurd e (by decide)

end Cert.Eq
-- ==== Proof.lean ====
/- The certificate: the programs run, leave their arguments unchanged and every counter at zero, and the kernel's
   results over the extended reals are the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Run.End
public import proofs.«01_k».proof.Proof.Ref.Values
public import proofs.«01_k».proof.Proof.Eq.Results
public import proofs.«01_k».proof.Proof.Eq.Range

@[expose] public section

set_option maxRecDepth 16384

noncomputable section

namespace Cert.Proof

open Idealize.ShloMosaic
open Cert.KernelIdeal.Run (R0 R1 R2 R3 R4 R5 R6 newHist)
open Cert.ReferenceIdeal.Gen (out0_5 out0_6 out0_7 out0_8 out0_9 out0_10 out0_11 out0_12)

attribute [local instance] Cert.Eq.preFacts

/-- From equal arguments and a finite history, the kernel's eight results are the reference's. -/
theorem results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_KernelIdeal_finite_history m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    R0 (Cert.KernelIdeal.Run.inX m c) (Cert.KernelIdeal.Run.inW m c) (Cert.KernelIdeal.Run.inS m c) (Cert.KernelIdeal.Run.inB m c) (Cert.KernelIdeal.Run.inH m c)
        = out0_5 (Cert.ReferenceIdeal.Values.inX m' c) (Cert.ReferenceIdeal.Values.inW m' c) (Cert.ReferenceIdeal.Values.inS m' c) (Cert.ReferenceIdeal.Values.inB m' c) (Cert.ReferenceIdeal.Values.inH m' c)
      ∧ R1 (Cert.KernelIdeal.Run.inX m c) (Cert.KernelIdeal.Run.inH m c)
        = out0_6 (Cert.ReferenceIdeal.Values.inX m' c) (Cert.ReferenceIdeal.Values.inW m' c) (Cert.ReferenceIdeal.Values.inS m' c) (Cert.ReferenceIdeal.Values.inB m' c) (Cert.ReferenceIdeal.Values.inH m' c)
      ∧ R2 (Cert.KernelIdeal.Run.inH m c)
        = out0_7 (Cert.ReferenceIdeal.Values.inX m' c) (Cert.ReferenceIdeal.Values.inW m' c) (Cert.ReferenceIdeal.Values.inS m' c) (Cert.ReferenceIdeal.Values.inB m' c) (Cert.ReferenceIdeal.Values.inH m' c)
      ∧ R3 (Cert.KernelIdeal.Run.inX m c) (Cert.KernelIdeal.Run.inW m c) (Cert.KernelIdeal.Run.inS m c) (Cert.KernelIdeal.Run.inB m c) (Cert.KernelIdeal.Run.inH m c)
        = out0_8 (Cert.ReferenceIdeal.Values.inX m' c) (Cert.ReferenceIdeal.Values.inW m' c) (Cert.ReferenceIdeal.Values.inS m' c) (Cert.ReferenceIdeal.Values.inB m' c) (Cert.ReferenceIdeal.Values.inH m' c)
      ∧ R4 (Cert.KernelIdeal.Run.inH m c)
        = out0_9 (Cert.ReferenceIdeal.Values.inX m' c) (Cert.ReferenceIdeal.Values.inW m' c) (Cert.ReferenceIdeal.Values.inS m' c) (Cert.ReferenceIdeal.Values.inB m' c) (Cert.ReferenceIdeal.Values.inH m' c)
      ∧ R5 (Cert.KernelIdeal.Run.inX m c) (Cert.KernelIdeal.Run.inW m c) (Cert.KernelIdeal.Run.inS m c) (Cert.KernelIdeal.Run.inB m c) (Cert.KernelIdeal.Run.inH m c)
        = out0_10 (Cert.ReferenceIdeal.Values.inX m' c) (Cert.ReferenceIdeal.Values.inW m' c) (Cert.ReferenceIdeal.Values.inS m' c) (Cert.ReferenceIdeal.Values.inB m' c) (Cert.ReferenceIdeal.Values.inH m' c)
      ∧ R6 (Cert.KernelIdeal.Run.inH m c)
        = out0_11 (Cert.ReferenceIdeal.Values.inX m' c) (Cert.ReferenceIdeal.Values.inW m' c) (Cert.ReferenceIdeal.Values.inS m' c) (Cert.ReferenceIdeal.Values.inB m' c) (Cert.ReferenceIdeal.Values.inH m' c)
      ∧ newHist (Cert.KernelIdeal.Run.inX m c) (Cert.KernelIdeal.Run.inW m c) (Cert.KernelIdeal.Run.inS m c) (Cert.KernelIdeal.Run.inB m c) (Cert.KernelIdeal.Run.inH m c)
        = out0_12 (Cert.ReferenceIdeal.Values.inX m' c) (Cert.ReferenceIdeal.Values.inW m' c) (Cert.ReferenceIdeal.Values.inS m' c) (Cert.ReferenceIdeal.Values.inB m' c) (Cert.ReferenceIdeal.Values.inH m' c) := by
  have hf : Cert.Eq.Finite (Cert.KernelIdeal.Run.inH m c) := by
    rw [Cert.KernelIdeal.Run.inH_eq]
    exact Cert.Eq.finite_of_pre _ _ _ _ _ (hpre c)
  have eW : Cert.ReferenceIdeal.Values.inW m' c = Cert.KernelIdeal.Run.inW m c := h1.trans (Cert.KernelIdeal.Run.inW_eq m c).symm
  have eS : Cert.ReferenceIdeal.Values.inS m' c = Cert.KernelIdeal.Run.inS m c := h2.trans (Cert.KernelIdeal.Run.inS_eq m c).symm
  have eB : Cert.ReferenceIdeal.Values.inB m' c = Cert.KernelIdeal.Run.inB m c := h3.trans (Cert.KernelIdeal.Run.inB_eq m c).symm
  have eH : Cert.ReferenceIdeal.Values.inH m' c = Cert.KernelIdeal.Run.inH m c := h4.trans (Cert.KernelIdeal.Run.inH_eq m c).symm
  have eX : Cert.ReferenceIdeal.Values.inX m' c = Cert.KernelIdeal.Run.inX m c := by
    refine Eq.trans ?_ (Cert.KernelIdeal.Run.inX_eq m c).symm
    exact congrArg (fun v => shapeCast Cert.KernelIdeal.S128x3584 v Cert.KernelIdeal.Gen.shapeCasts_S1x128x3584_S128x3584) h0
  rw [eX, eW, eS, eB, eH]
  exact ⟨Cert.Eq.R0_eq _ _ _ _ _ hf, Cert.Eq.R1_eq _ _ _ _ _ hf, Cert.Eq.R2_eq _ _ _ _ _ hf, Cert.Eq.R3_eq _ _ _ _ _ hf, Cert.Eq.R4_eq _ _ _ _ _ hf,
    Cert.Eq.R5_eq _ _ _ _ _ hf, Cert.Eq.R6_eq _ _ _ _ _ hf, Cert.Eq.newHist_eq _ _ _ _ _ hf⟩

/-- The kernel and the reference, over the extended reals, end with equal results. -/
theorem algebraic : Cert.algebraic_KernelIdeal_ReferenceIdeal_pre_finite_history
    (hKernelIdeal := Cert.KernelIdeal.Gen.facts) (hReferenceIdeal := Cert.ReferenceIdeal.Gen.facts) (hPre_finite_history := Cert.Eq.preFacts) := by
  intro m g m' g' hpre hagree
  refine ⟨fun c => shapeCast Cert.KernelIdeal.S1x128x3584 (R0 (Cert.KernelIdeal.Run.inX m c) (Cert.KernelIdeal.Run.inW m c) (Cert.KernelIdeal.Run.inS m c) (Cert.KernelIdeal.Run.inB m c) (Cert.KernelIdeal.Run.inH m c)) Cert.KernelIdeal.Gen.shapeCasts_S128x3584_S1x128x3584,
    fun c => shapeCast Cert.KernelIdeal.S1x128x3584 (R1 (Cert.KernelIdeal.Run.inX m c) (Cert.KernelIdeal.Run.inH m c)) Cert.KernelIdeal.Gen.shapeCasts_S128x3584_S1x128x3584,
    fun c => shapeCast Cert.KernelIdeal.S_ (R2 (Cert.KernelIdeal.Run.inH m c)) Cert.KernelIdeal.Gen.shapeCasts_S1x1_S_,
    fun c => shapeCast Cert.KernelIdeal.S1x128x3584 (R3 (Cert.KernelIdeal.Run.inX m c) (Cert.KernelIdeal.Run.inW m c) (Cert.KernelIdeal.Run.inS m c) (Cert.KernelIdeal.Run.inB m c) (Cert.KernelIdeal.Run.inH m c)) Cert.KernelIdeal.Gen.shapeCasts_S128x3584_S1x128x3584,
    fun c => shapeCast Cert.KernelIdeal.S_ (R4 (Cert.KernelIdeal.Run.inH m c)) Cert.KernelIdeal.Gen.shapeCasts_S1x1_S_,
    fun c => shapeCast Cert.KernelIdeal.S1x128x3584 (R5 (Cert.KernelIdeal.Run.inX m c) (Cert.KernelIdeal.Run.inW m c) (Cert.KernelIdeal.Run.inS m c) (Cert.KernelIdeal.Run.inB m c) (Cert.KernelIdeal.Run.inH m c)) Cert.KernelIdeal.Gen.shapeCasts_S128x3584_S1x128x3584,
    fun c => shapeCast Cert.KernelIdeal.S_ (R6 (Cert.KernelIdeal.Run.inH m c)) Cert.KernelIdeal.Gen.shapeCasts_S1x1_S_,
    fun c => newHist (Cert.KernelIdeal.Run.inX m c) (Cert.KernelIdeal.Run.inW m c) (Cert.KernelIdeal.Run.inS m c) (Cert.KernelIdeal.Run.inB m c) (Cert.KernelIdeal.Run.inH m c),
    Cert.KernelIdeal.Run.values (F := Ideal) m g, ?_⟩
  refine θ_run_mono (θ_run_and (Cert.ReferenceIdeal.Values.values (F := Ideal) m' g') (Cert.ReferenceIdeal.Gen.unchanged (F := Ideal) m' g')) ?_
  intro r hr c
  obtain ⟨r0, r1, r2, r3, r4, r5, r6, r7⟩ := hr.1 c
  obtain ⟨h0, h1, h2, h3, h4⟩ := hagree c
  obtain ⟨e0, e1, e2, e3, e4, e5, e6, e7⟩ := results m m' c hpre h0 h1 h2 h3 h4
  exact ⟨r0.trans (congrArg (fun v => shapeCast Cert.KernelIdeal.S1x128x3584 v Cert.KernelIdeal.Gen.shapeCasts_S128x3584_S1x128x3584) e0.symm),
    r1.trans (congrArg (fun v => shapeCast Cert.KernelIdeal.S1x128x3584 v Cert.KernelIdeal.Gen.shapeCasts_S128x3584_S1x128x3584) e1.symm),
    r2.trans (congrArg (fun v => shapeCast Cert.KernelIdeal.S_ v Cert.KernelIdeal.Gen.shapeCasts_S1x1_S_) e2.symm),
    r3.trans (congrArg (fun v => shapeCast Cert.KernelIdeal.S1x128x3584 v Cert.KernelIdeal.Gen.shapeCasts_S128x3584_S1x128x3584) e3.symm),
    r4.trans (congrArg (fun v => shapeCast Cert.KernelIdeal.S_ v Cert.KernelIdeal.Gen.shapeCasts_S1x1_S_) e4.symm),
    r5.trans (congrArg (fun v => shapeCast Cert.KernelIdeal.S1x128x3584 v Cert.KernelIdeal.Gen.shapeCasts_S128x3584_S1x128x3584) e5.symm),
    r6.trans (congrArg (fun v => shapeCast Cert.KernelIdeal.S_ v Cert.KernelIdeal.Gen.shapeCasts_S1x1_S_) e6.symm),
    r7.trans e7.symm, hr.2 c⟩

/-- The kernel at the machine's numbers and the kernel over the extended reals are one program text, so the frame, proved
    for every reading of the floats, is both frames. -/
theorem claim : Cert.Claim :=
  ⟨Cert.Kernel.Gen.facts, Cert.KernelIdeal.Gen.facts, Cert.ReferenceIdeal.Gen.facts, Cert.Eq.preFacts,
    fun m g _ => Cert.KernelIdeal.Run.frame (F := Bits) m g,
    fun m g _ => Cert.KernelIdeal.Run.frame (F := Ideal) m g,
    fun m g _ => Cert.KernelIdeal.Run.frame (F := Ideal) m g,
    fun m g _ => Cert.ReferenceIdeal.Gen.frame (F := Ideal) m g,
    fun m g _ => Cert.ReferenceIdeal.Gen.frame (F := Ideal) m g,
    trivial, algebraic⟩

end Cert.Proof

end
